-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v37)) (v2 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v37) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_3) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_v7) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x512x2048 : Shape := ⟨3, ![16, 512, 2048]⟩
abbrev S8x2x1024x256 : Shape := ⟨4, ![8, 2, 1024, 256]⟩
abbrev S_ : Shape := ⟨0, ![]⟩

class Facts : Prop where
  bcast_S_S16x512x2048 : S_.BroadcastsInDim S16x512x2048 (![] : Fin 0 → Fin S16x512x2048.rank)
  reducesTo_S16x512x2048_S_d0_1_2 : S16x512x2048.ReducesTo [0, 1, 2] S_
  h_S_ : 0 < S_.numel
  bcast_S_S8x2x1024x256 : S_.BroadcastsInDim S8x2x1024x256 (![] : Fin 0 → Fin S8x2x1024x256.rank)
  reducesTo_S8x2x1024x256_S_d0_1_2_3 : S8x2x1024x256.ReducesTo [0, 1, 2, 3] S_

variable [Facts]

def fn {F : FTy → Type} [FloatOps F] (main_arg0 : FVec F S16x512x2048 .f32) (main_arg1 : FVec F S8x2x1024x256 .f32) : IVec S_ 1 :=
  let main_v0 : FVec F S16x512x2048 .f32 := Host.absf main_arg0
  let main_cst : FVec F S_ .f32 := constant S_ .f32 0x7F800000#32
  let main_v1 : FVec F S16x512x2048 .f32 := broadcastInDim S16x512x2048 ![] bcast_S_S16x512x2048 main_cst
  let main_v2 : IVec S16x512x2048 1 := cmpf .olt main_v0 main_v1
  let main_c : IVec S_ 1 := constantI S_ 1 1#1
  let main_v3 : IVec S_ 1 := (fun x v => Host.reduce IntOp.andi x v reducesTo_S16x512x2048_S_d0_1_2 h_S_) main_v2 main_c
  let main_v4 : FVec F S8x2x1024x256 .f32 := Host.absf main_arg1
  let main_cst_0 : FVec F S_ .f32 := constant S_ .f32 0x7F800000#32
  let main_v5 : FVec F S8x2x1024x256 .f32 := broadcastInDim S8x2x1024x256 ![] bcast_S_S8x2x1024x256 main_cst_0
  let main_v6 : IVec S8x2x1024x256 1 := cmpf .olt main_v4 main_v5
  let main_c_1 : IVec S_ 1 := constantI S_ 1 1#1
  let main_v7 : IVec S_ 1 := (fun x v => Host.reduce IntOp.andi x v reducesTo_S8x2x1024x256_S_d0_1_2_3 h_S_) main_v6 main_c_1
  let main_v8 : IVec S_ 1 := andi main_v3 main_v7
  main_v8
-- ==== Kernel.lean ====
abbrev S16x512x2048 : Shape := ⟨3, ![16, 512, 2048]⟩
abbrev S8x2x1024x256 : Shape := ⟨4, ![8, 2, 1024, 256]⟩
abbrev S16x2048x512 : Shape := ⟨3, ![16, 2048, 512]⟩
abbrev S32768x512 : Shape := ⟨2, ![32768, 512]⟩
abbrev S_ : Shape := ⟨0, ![]⟩
abbrev S8x2x1024 : Shape := ⟨3, ![8, 2, 1024]⟩
abbrev S16x1024 : Shape := ⟨2, ![16, 1024]⟩
abbrev S64x16x512 : Shape := ⟨3, ![64, 16, 512]⟩
abbrev S8x128 : Shape := ⟨2, ![8, 128]⟩
abbrev S512x512 : Shape := ⟨2, ![512, 512]⟩
abbrev S1x16x512 : Shape := ⟨3, ![1, 16, 512]⟩
abbrev S512x256 : Shape := ⟨2, ![512, 256]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x1024 : Shape := ⟨2, ![512, 1024]⟩
abbrev S1x1024 : Shape := ⟨2, ![1, 1024]⟩
abbrev S1024 : Shape := ⟨1, ![1024]⟩
abbrev S1x1x512 : Shape := ⟨3, ![1, 1, 512]⟩
abbrev S1x512x512 : Shape := ⟨3, ![1, 512, 512]⟩
abbrev S1 : Shape := ⟨1, ![1]⟩
abbrev S1x1x1 : Shape := ⟨3, ![1, 1, 1]⟩
abbrev S8 : Shape := ⟨1, ![8]⟩
abbrev S8x1 : Shape := ⟨2, ![8, 1]⟩
abbrev S1x128 : Shape := ⟨2, ![1, 128]⟩
abbrev S1x2x1024x256 : Shape := ⟨4, ![1, 2, 1024, 256]⟩
abbrev S2x1024x256 : Shape := ⟨3, ![2, 1024, 256]⟩
abbrev S2x8x128 : Shape := ⟨3, ![2, 8, 128]⟩
abbrev S1x1024x256 : Shape := ⟨3, ![1, 1024, 256]⟩
abbrev S1x8x128 : Shape := ⟨3, ![1, 8, 128]⟩
abbrev S1024x1024 : Shape := ⟨2, ![1024, 1024]⟩
abbrev S1024x1 : Shape := ⟨2, ![1024, 1]⟩
abbrev S1x1024x1 : Shape := ⟨3, ![1, 1024, 1]⟩
abbrev S16x64x512 : Shape := ⟨3, ![16, 64, 512]⟩
abbrev S16x32768 : Shape := ⟨2, ![16, 32768]⟩
abbrev S2x1x1 : Shape := ⟨3, ![2, 1, 1]⟩
abbrev S2 : Shape := ⟨1, ![2]⟩
abbrev S7 : Shape := ⟨1, ![7]⟩

abbrev nBuf : Space → Nat
  | .hbm => 51
  | .vmem => 13
  | .smem => 0
  | _ => 0

abbrev bufTy : (tb : Table) → Fin (tcTables nBuf tb) → BufTy
  | .hbm, ⟨0, _⟩ => ⟨S16x512x2048, .f32⟩
  | .hbm, ⟨1, _⟩ => ⟨S8x2x1024x256, .f32⟩
  | .hbm, ⟨2, _⟩ => ⟨S16x2048x512, .f32⟩
  | .hbm, ⟨3, _⟩ => ⟨S32768x512, .f32⟩
  | .hbm, ⟨4, _⟩ => ⟨S8x2x1024x256, .f32⟩
  | .hbm, ⟨5, _⟩ => ⟨S_, .f32⟩
  | .hbm, ⟨6, _⟩ => ⟨S8x2x1024, .f32⟩
  | .hbm, ⟨7, _⟩ => ⟨S16x1024, .f32⟩
  | .hbm, ⟨8, _⟩ => ⟨S32768x512, .f32⟩
  | .hbm, ⟨9, _⟩ => ⟨S64x16x512, .i32⟩
  | .hbm, ⟨10, _⟩ => ⟨S8x128, .f32⟩
  | .hbm, ⟨11, _⟩ => ⟨S1x2x1024x256, .f32⟩
  | .hbm, ⟨12, _⟩ => ⟨S2x1024x256, .f32⟩
  | .hbm, ⟨13, _⟩ => ⟨S2x8x128, .f32⟩
  | .hbm, ⟨14, _⟩ => ⟨S16x2048x512, .f32⟩
  | .hbm, ⟨15, _⟩ => ⟨S16x512x2048, .f32⟩
  | .hbm, ⟨16, _⟩ => ⟨S16x64x512, .i32⟩
  | .hbm, ⟨17, _⟩ => ⟨S16x32768, .i32⟩
  | .hbm, ⟨18, _⟩ => ⟨S8x1, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S2x1x1, .f32⟩
  | .hbm, ⟨24, _⟩ => ⟨S2, .f32⟩
  | .hbm, ⟨25, _⟩ => ⟨S1, .f32⟩
  | .hbm, ⟨26, _⟩ => ⟨S_, .f32⟩
  | .hbm, ⟨27, _⟩ => ⟨S1, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1, .f32⟩
  | .hbm, ⟨33, _⟩ => ⟨S_, .f32⟩
  | .hbm, ⟨34, _⟩ => ⟨S7, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S8, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S8x2x1024x256, .f32⟩
  | .local _ .vmem, ⟨3, _⟩ => ⟨S16x1024, .f32⟩
  | .local _ .vmem, ⟨4, _⟩ => ⟨S512x512, .f32⟩
  | .local _ .vmem, ⟨5, _⟩ => ⟨S512x512, .f32⟩
  | .local _ .vmem, ⟨6, _⟩ => ⟨S1x16x512, .i32⟩
  | .local _ .vmem, ⟨7, _⟩ => ⟨S1x16x512, .i32⟩
  | .local _ .vmem, ⟨8, _⟩ => ⟨S8x128, .f32⟩
  | .local _ .vmem, ⟨9, _⟩ => ⟨S1x1024x256, .f32⟩
  | .local _ .vmem, ⟨10, _⟩ => ⟨S1x1024x256, .f32⟩
  | .local _ .vmem, ⟨11, _⟩ => ⟨S1x8x128, .f32⟩
  | .local _ .vmem, ⟨12, _⟩ => ⟨S1x8x128, .f32⟩
  | _, _ => ⟨S16x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_1 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc1_sem0_0 : DmaSem sig := 9
abbrev cc1_sem0_1 : DmaSem sig := 10
abbrev cc1_sem1_0 : DmaSem sig := 11
abbrev cc1_sem1_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2x1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== ReferenceIdeal.lean ====
abbrev S16x512x2048 : Shape := ⟨3, ![16, 512, 2048]⟩
abbrev S8x2x1024x256 : Shape := ⟨4, ![8, 2, 1024, 256]⟩
abbrev S_ : Shape := ⟨0, ![]⟩
abbrev S8 : Shape := ⟨1, ![8]⟩
abbrev S8x2x32768 : Shape := ⟨3, ![8, 2, 32768]⟩
abbrev S1 : Shape := ⟨1, ![1]⟩
abbrev S1x2x1024x256 : Shape := ⟨4, ![1, 2, 1024, 256]⟩
abbrev S2x1024x256 : Shape := ⟨3, ![2, 1024, 256]⟩
abbrev S16x2048x512 : Shape := ⟨3, ![16, 2048, 512]⟩
abbrev S32768x512 : Shape := ⟨2, ![32768, 512]⟩
abbrev S32768x256 : Shape := ⟨2, ![32768, 256]⟩
abbrev S1x1024x256 : Shape := ⟨3, ![1, 1024, 256]⟩
abbrev S1024x256 : Shape := ⟨2, ![1024, 256]⟩
abbrev S32768 : Shape := ⟨1, ![32768]⟩
abbrev S32768x1 : Shape := ⟨2, ![32768, 1]⟩
abbrev S1024 : Shape := ⟨1, ![1024]⟩
abbrev S1x1024 : Shape := ⟨2, ![1, 1024]⟩
abbrev S32768x1024 : Shape := ⟨2, ![32768, 1024]⟩
abbrev S256x1024 : Shape := ⟨2, ![256, 1024]⟩
abbrev S1x1 : Shape := ⟨2, ![1, 1]⟩
abbrev S1024x1024 : Shape := ⟨2, ![1024, 1024]⟩
abbrev S1024x1 : Shape := ⟨2, ![1024, 1]⟩
abbrev S1024x2 : Shape := ⟨2, ![1024, 2]⟩
abbrev S2 : Shape := ⟨1, ![2]⟩
abbrev S1x32768 : Shape := ⟨2, ![1, 32768]⟩
abbrev S2x32768 : Shape := ⟨2, ![2, 32768]⟩
abbrev S1x2x32768 : Shape := ⟨3, ![1, 2, 32768]⟩
abbrev S16x32768 : Shape := ⟨2, ![16, 32768]⟩

abbrev nBuf : Space → Nat
  | .hbm => 266
  | .vmem => 0
  | .smem => 0
  | _ => 0

abbrev hbmTy0_0 (i : Nat) : BufTy := match i % 128 with
  | 0 => ⟨S16x512x2048, .f32⟩
  | 1 => ⟨S8x2x1024x256, .f32⟩
  | 2 => ⟨S_, .f32⟩
  | 3 => ⟨S16x512x2048, .f32⟩
  | 4 => ⟨S8, .i32⟩
  | 5 => ⟨S_, .f32⟩
  | 6 => ⟨S8, .f32⟩
  | 7 => ⟨S_, .i32⟩
  | 8 => ⟨S8x2x32768, .i32⟩
  | 9 => ⟨S_, .i32⟩
  | 10 => ⟨S8, .i32⟩
  | 11 => ⟨S8x2x1024x256, .f32⟩
  | 12 => ⟨S_, .i32⟩
  | 13 => ⟨S16x512x2048, .f32⟩
  | 14 => ⟨S16x512x2048, .f32⟩
  | 15 => ⟨S8, .f32⟩
  | 16 => ⟨S8x2x32768, .i32⟩
  | 17 => ⟨S_, .i32⟩
  | 18 => ⟨S_, .i1⟩
  | 19 => ⟨S1, .i32⟩
  | 20 => ⟨S_, .i32⟩
  | 21 => ⟨S_, .i32⟩
  | 22 => ⟨S_, .i32⟩
  | 23 => ⟨S_, .i32⟩
  | 24 => ⟨S1x2x1024x256, .f32⟩
  | 25 => ⟨S2x1024x256, .f32⟩
  | 26 => ⟨S16x2048x512, .f32⟩
  | 27 => ⟨S32768x512, .f32⟩
  | 28 => ⟨S32768x256, .f32⟩
  | 29 => ⟨S1x1024x256, .f32⟩
  | 30 => ⟨S1024x256, .f32⟩
  | 31 => ⟨S32768x256, .f32⟩
  | 32 => ⟨S_, .f32⟩
  | 33 => ⟨S32768, .f32⟩
  | 34 => ⟨S32768x1, .f32⟩
  | 35 => ⟨S1024x256, .f32⟩
  | 36 => ⟨S_, .f32⟩
  | 37 => ⟨S1024, .f32⟩
  | 38 => ⟨S1x1024, .f32⟩
  | 39 => ⟨S32768x1024, .f32⟩
  | 40 => ⟨S32768x1024, .f32⟩
  | 41 => ⟨S32768x1024, .f32⟩
  | 42 => ⟨S256x1024, .f32⟩
  | 43 => ⟨S32768x1024, .f32⟩
  | 44 => ⟨S_, .f32⟩
  | 45 => ⟨S32768x1024, .f32⟩
  | 46 => ⟨S32768x1024, .f32⟩
  | 47 => ⟨S32768x1024, .f32⟩
  | 48 => ⟨S32768x1024, .i32⟩
  | 49 => ⟨S_, .f32⟩
  | 50 => ⟨S_, .i32⟩
  | 51 => ⟨S32768, .f32⟩
  | 52 => ⟨S32768, .i32⟩
  | 53 => ⟨S_, .i32⟩
  | 54 => ⟨S32768, .i32⟩
  | 55 => ⟨S32768, .i1⟩
  | 56 => ⟨S_, .i32⟩
  | 57 => ⟨S32768, .i32⟩
  | 58 => ⟨S32768, .i32⟩
  | 59 => ⟨S32768, .i32⟩
  | 60 => ⟨S32768x1, .i32⟩
  | 61 => ⟨S1, .i32⟩
  | 62 => ⟨S_, .i32⟩
  | 63 => ⟨S32768x1, .i32⟩
  | 64 => ⟨S32768x1, .i1⟩
  | 65 => ⟨S1x1, .i32⟩
  | 66 => ⟨S32768x1, .i32⟩
  | 67 => ⟨S32768x1, .i1⟩
  | 68 => ⟨S32768x1, .i1⟩
  | 69 => ⟨S_, .i1⟩
  | 70 => ⟨S32768, .i1⟩
  | 71 => ⟨S32768x256, .f32⟩
  | 72 => ⟨S32768x256, .i1⟩
  | 73 => ⟨S_, .f32⟩
  | 74 => ⟨S32768x256, .f32⟩
  | 75 => ⟨S32768x256, .f32⟩
  | 76 => ⟨S256x1024, .f32⟩
  | 77 => ⟨S1024x1024, .f32⟩
  | 78 => ⟨S_, .f32⟩
  | 79 => ⟨S1024x1024, .f32⟩
  | 80 => ⟨S1024x1024, .f32⟩
  | 81 => ⟨S1024, .i32⟩
  | 82 => ⟨S_, .f32⟩
  | 83 => ⟨S1024, .f32⟩
  | 84 => ⟨S1024x1, .f32⟩
  | 85 => ⟨S1024x1024, .f32⟩
  | 86 => ⟨S1024x1024, .f32⟩
  | 87 => ⟨S1024x1024, .f32⟩
  | 88 => ⟨S_, .f32⟩
  | 89 => ⟨S1024, .f32⟩
  | 90 => ⟨S1024, .f32⟩
  | 91 => ⟨S1024, .f32⟩
  | 92 => ⟨S_, .i32⟩
  | 93 => ⟨S1024, .i32⟩
  | 94 => ⟨S1024, .i1⟩
  | 95 => ⟨S_, .i32⟩
  | 96 => ⟨S1024, .i32⟩
  | 97 => ⟨S1024, .i32⟩
  | 98 => ⟨S1024, .i32⟩
  | 99 => ⟨S_, .i32⟩
  | 100 => ⟨S1024, .i32⟩
  | 101 => ⟨S1024, .i1⟩
  | 102 => ⟨S_, .i32⟩
  | 103 => ⟨S1024, .i32⟩
  | 104 => ⟨S1024, .i32⟩
  | 105 => ⟨S1024, .i32⟩
  | 106 => ⟨S1024x1, .i32⟩
  | 107 => ⟨S1024x1, .i32⟩
  | 108 => ⟨S1024x2, .i32⟩
  | 109 => ⟨S1024, .f32⟩
  | 110 => ⟨S1024, .f32⟩
  | 111 => ⟨S_, .f32⟩
  | 112 => ⟨S_, .f32⟩
  | 113 => ⟨S_, .f32⟩
  | 114 => ⟨S_, .f32⟩
  | 115 => ⟨S_, .i32⟩
  | 116 => ⟨S_, .i1⟩
  | 117 => ⟨S_, .f32⟩
  | 118 => ⟨S_, .f32⟩
  | 119 => ⟨S_, .f32⟩
  | 120 => ⟨S_, .f32⟩
  | 121 => ⟨S_, .f32⟩
  | 122 => ⟨S32768x256, .f32⟩
  | 123 => ⟨S1x1024x256, .f32⟩
  | 124 => ⟨S1024x256, .f32⟩
  | 125 => ⟨S32768x256, .f32⟩
  | 126 => ⟨S_, .f32⟩
  | 127 => ⟨S32768, .f32⟩
  | _ => ⟨S16x512x2048, .f32⟩

abbrev hbmTy0_1 (i : Nat) : BufTy := match i % 128 with
  | 0 => ⟨S32768x1, .f32⟩
  | 1 => ⟨S1024x256, .f32⟩
  | 2 => ⟨S_, .f32⟩
  | 3 => ⟨S1024, .f32⟩
  | 4 => ⟨S1x1024, .f32⟩
  | 5 => ⟨S32768x1024, .f32⟩
  | 6 => ⟨S32768x1024, .f32⟩
  | 7 => ⟨S32768x1024, .f32⟩
  | 8 => ⟨S256x1024, .f32⟩
  | 9 => ⟨S32768x1024, .f32⟩
  | 10 => ⟨S_, .f32⟩
  | 11 => ⟨S32768x1024, .f32⟩
  | 12 => ⟨S32768x1024, .f32⟩
  | 13 => ⟨S32768x1024, .f32⟩
  | 14 => ⟨S32768x1024, .i32⟩
  | 15 => ⟨S_, .f32⟩
  | 16 => ⟨S_, .i32⟩
  | 17 => ⟨S32768, .f32⟩
  | 18 => ⟨S32768, .i32⟩
  | 19 => ⟨S_, .i32⟩
  | 20 => ⟨S32768, .i32⟩
  | 21 => ⟨S32768, .i1⟩
  | 22 => ⟨S_, .i32⟩
  | 23 => ⟨S32768, .i32⟩
  | 24 => ⟨S32768, .i32⟩
  | 25 => ⟨S32768, .i32⟩
  | 26 => ⟨S32768x1, .i32⟩
  | 27 => ⟨S1, .i32⟩
  | 28 => ⟨S_, .i32⟩
  | 29 => ⟨S32768x1, .i32⟩
  | 30 => ⟨S32768x1, .i1⟩
  | 31 => ⟨S1x1, .i32⟩
  | 32 => ⟨S32768x1, .i32⟩
  | 33 => ⟨S32768x1, .i1⟩
  | 34 => ⟨S32768x1, .i1⟩
  | 35 => ⟨S_, .i1⟩
  | 36 => ⟨S32768, .i1⟩
  | 37 => ⟨S32768x256, .f32⟩
  | 38 => ⟨S32768x256, .i1⟩
  | 39 => ⟨S_, .f32⟩
  | 40 => ⟨S32768x256, .f32⟩
  | 41 => ⟨S32768x256, .f32⟩
  | 42 => ⟨S256x1024, .f32⟩
  | 43 => ⟨S1024x1024, .f32⟩
  | 44 => ⟨S_, .f32⟩
  | 45 => ⟨S1024x1024, .f32⟩
  | 46 => ⟨S1024x1024, .f32⟩
  | 47 => ⟨S1024, .i32⟩
  | 48 => ⟨S_, .f32⟩
  | 49 => ⟨S1024, .f32⟩
  | 50 => ⟨S1024x1, .f32⟩
  | 51 => ⟨S1024x1024, .f32⟩
  | 52 => ⟨S1024x1024, .f32⟩
  | 53 => ⟨S1024x1024, .f32⟩
  | 54 => ⟨S_, .f32⟩
  | 55 => ⟨S1024, .f32⟩
  | 56 => ⟨S1024, .f32⟩
  | 57 => ⟨S1024, .f32⟩
  | 58 => ⟨S_, .i32⟩
  | 59 => ⟨S1024, .i32⟩
  | 60 => ⟨S1024, .i1⟩
  | 61 => ⟨S_, .i32⟩
  | 62 => ⟨S1024, .i32⟩
  | 63 => ⟨S1024, .i32⟩
  | 64 => ⟨S1024, .i32⟩
  | 65 => ⟨S_, .i32⟩
  | 66 => ⟨S1024, .i32⟩
  | 67 => ⟨S1024, .i1⟩
  | 68 => ⟨S_, .i32⟩
  | 69 => ⟨S1024, .i32⟩
  | 70 => ⟨S1024, .i32⟩
  | 71 => ⟨S1024, .i32⟩
  | 72 => ⟨S1024x1, .i32⟩
  | 73 => ⟨S1024x1, .i32⟩
  | 74 => ⟨S1024x2, .i32⟩
  | 75 => ⟨S1024, .f32⟩
  | 76 => ⟨S1024, .f32⟩
  | 77 => ⟨S_, .f32⟩
  | 78 => ⟨S_, .f32⟩
  | 79 => ⟨S_, .f32⟩
  | 80 => ⟨S_, .f32⟩
  | 81 => ⟨S_, .i32⟩
  | 82 => ⟨S_, .i1⟩
  | 83 => ⟨S_, .f32⟩
  | 84 => ⟨S_, .f32⟩
  | 85 => ⟨S_, .f32⟩
  | 86 => ⟨S_, .f32⟩
  | 87 => ⟨S_, .f32⟩
  | 88 => ⟨S32768x512, .f32⟩
  | 89 => ⟨S16x2048x512, .f32⟩
  | 90 => ⟨S16x512x2048, .f32⟩
  | 91 => ⟨S1, .f32⟩
  | 92 => ⟨S1, .f32⟩
  | 93 => ⟨S2, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S16x512x2048, .f32⟩
  | 101 => ⟨S16x512x2048, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S16x512x2048, .f32⟩
  | 110 => ⟨S16x512x2048, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S16x512x2048, .f32⟩
  | 119 => ⟨S16x512x2048, .f32⟩
  | 120 => ⟨S16x512x2048, .f32⟩
  | 121 => ⟨S16x512x2048, .f32⟩
  | 122 => ⟨S1x32768, .i32⟩
  | 123 => ⟨S1x32768, .i32⟩
  | 124 => ⟨S2x32768, .i32⟩
  | 125 => ⟨S1, .f32⟩
  | 126 => ⟨S8, .f32⟩
  | 127 => ⟨S1x2x32768, .i32⟩
  | _ => ⟨S16x512x2048, .f32⟩

abbrev hbmTy0_2 (i : Nat) : BufTy := match i % 128 with
  | 0 => ⟨S_, .i32⟩
  | 1 => ⟨S_, .i32⟩
  | 2 => ⟨S8x2x32768, .i32⟩
  | 3 => ⟨S_, .i32⟩
  | 4 => ⟨S_, .i32⟩
  | 5 => ⟨S_, .f32⟩
  | 6 => ⟨S_, .f32⟩
  | 7 => ⟨S_, .f32⟩
  | 8 => ⟨S_, .f32⟩
  | 9 => ⟨S16x32768, .i32⟩
  | _ => ⟨S16x512x2048, .f32⟩

abbrev hbmTy (i : Nat) : BufTy := match i / 128 with
  | 0 => hbmTy0_0 i
  | 1 => hbmTy0_1 i
  | 2 => hbmTy0_2 i
  | _ => ⟨S16x512x2048, .f32⟩

abbrev bufTy : (tb : Table) → Fin (tcTables nBuf tb) → BufTy
  | .hbm, ⟨i, _⟩ => hbmTy i
  | _, _ => ⟨S16x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_c_1 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev main_v4_6 : Ref sig .tc := ⟨.hbm, 16, rfl⟩
abbrev main_while0c_c_10 : Ref sig .tc := ⟨.hbm, 17, rfl⟩
abbrev main_while0c_v8 : Ref sig .tc := ⟨.hbm, 18, rfl⟩
abbrev main_while0b_call0_v0 : Ref sig .tc := ⟨.hbm, 19, rfl⟩
abbrev main_while0b_v8 : Ref sig .tc := ⟨.hbm, 20, rfl⟩
abbrev main_while0b_call1_c : Ref sig .tc := ⟨.hbm, 21, rfl⟩
abbrev main_while0b_call1_c_0 : Ref sig .tc := ⟨.hbm, 22, rfl⟩
abbrev main_while0b_call1_c_1 : Ref sig .tc := ⟨.hbm, 23, rfl⟩
abbrev main_while0b_call1_v0 : Ref sig .tc := ⟨.hbm, 24, rfl⟩
abbrev main_while0b_v9 : Ref sig .tc := ⟨.hbm, 25, rfl⟩
abbrev main_while0b_v10 : Ref sig .tc := ⟨.hbm, 26, rfl⟩
abbrev main_while0b_v11 : Ref sig .tc := ⟨.hbm, 27, rfl⟩
abbrev main_while0b_v12 : Ref sig .tc := ⟨.hbm, 28, rfl⟩
abbrev main_while0b_v13 : Ref sig .tc := ⟨.hbm, 29, rfl⟩
abbrev main_while0b_v14 : Ref sig .tc := ⟨.hbm, 30, rfl⟩
abbrev main_while0b_v15 : Ref sig .tc := ⟨.hbm, 31, rfl⟩
abbrev main_while0b_cst_10 : Ref sig .tc := ⟨.hbm, 32, rfl⟩
abbrev main_while0b_v16 : Ref sig .tc := ⟨.hbm, 33, rfl⟩
abbrev main_while0b_v17 : Ref sig .tc := ⟨.hbm, 34, rfl⟩
abbrev main_while0b_v18 : Ref sig .tc := ⟨.hbm, 35, rfl⟩
abbrev main_while0b_cst_11 : Ref sig .tc := ⟨.hbm, 36, rfl⟩
abbrev main_while0b_v19 : Ref sig .tc := ⟨.hbm, 37, rfl⟩
abbrev main_while0b_v20 : Ref sig .tc := ⟨.hbm, 38, rfl⟩
abbrev main_while0b_v21 : Ref sig .tc := ⟨.hbm, 39, rfl⟩
abbrev main_while0b_v22 : Ref sig .tc := ⟨.hbm, 40, rfl⟩
abbrev main_while0b_v23 : Ref sig .tc := ⟨.hbm, 41, rfl⟩
abbrev main_while0b_v24 : Ref sig .tc := ⟨.hbm, 42, rfl⟩
abbrev main_while0b_v25 : Ref sig .tc := ⟨.hbm, 43, rfl⟩
abbrev main_while0b_cst_12 : Ref sig .tc := ⟨.hbm, 44, rfl⟩
abbrev main_while0b_v26 : Ref sig .tc := ⟨.hbm, 45, rfl⟩
abbrev main_while0b_v27 : Ref sig .tc := ⟨.hbm, 46, rfl⟩
abbrev main_while0b_v28 : Ref sig .tc := ⟨.hbm, 47, rfl⟩
abbrev main_while0b_call2_v0 : Ref sig .tc := ⟨.hbm, 48, rfl⟩
abbrev main_while0b_call2_cst : Ref sig .tc := ⟨.hbm, 49, rfl⟩
abbrev main_while0b_call2_c : Ref sig .tc := ⟨.hbm, 50, rfl⟩
abbrev main_while0b_call2_v1_0 : Ref sig .tc := ⟨.hbm, 51, rfl⟩
abbrev main_while0b_v29 : Ref sig .tc := ⟨.hbm, 52, rfl⟩
abbrev main_while0b_call3_c : Ref sig .tc := ⟨.hbm, 53, rfl⟩
abbrev main_while0b_call3_v0 : Ref sig .tc := ⟨.hbm, 54, rfl⟩
abbrev main_while0b_call3_v1 : Ref sig .tc := ⟨.hbm, 55, rfl⟩
abbrev main_while0b_call3_c_0 : Ref sig .tc := ⟨.hbm, 56, rfl⟩
abbrev main_while0b_call3_v2 : Ref sig .tc := ⟨.hbm, 57, rfl⟩
abbrev main_while0b_call3_v3 : Ref sig .tc := ⟨.hbm, 58, rfl⟩
abbrev main_while0b_call3_v4 : Ref sig .tc := ⟨.hbm, 59, rfl⟩
abbrev main_while0b_call3_v5 : Ref sig .tc := ⟨.hbm, 60, rfl⟩
abbrev main_while0b_call3_c_1 : Ref sig .tc := ⟨.hbm, 61, rfl⟩
abbrev main_while0b_call3_c_2 : Ref sig .tc := ⟨.hbm, 62, rfl⟩
abbrev main_while0b_call3_v6 : Ref sig .tc := ⟨.hbm, 63, rfl⟩
abbrev main_while0b_call3_v7 : Ref sig .tc := ⟨.hbm, 64, rfl⟩
abbrev main_while0b_call3_v8 : Ref sig .tc := ⟨.hbm, 65, rfl⟩
abbrev main_while0b_call3_v9 : Ref sig .tc := ⟨.hbm, 66, rfl⟩
abbrev main_while0b_call3_v10 : Ref sig .tc := ⟨.hbm, 67, rfl⟩
abbrev main_while0b_call3_v11 : Ref sig .tc := ⟨.hbm, 68, rfl⟩
abbrev main_while0b_call3_c_3 : Ref sig .tc := ⟨.hbm, 69, rfl⟩
abbrev main_while0b_call3_v12 : Ref sig .tc := ⟨.hbm, 70, rfl⟩
abbrev main_while0b_call3_v13 : Ref sig .tc := ⟨.hbm, 71, rfl⟩
abbrev main_while0b_call3_v14 : Ref sig .tc := ⟨.hbm, 72, rfl⟩
abbrev main_while0b_call3_cst : Ref sig .tc := ⟨.hbm, 73, rfl⟩
abbrev main_while0b_call3_v15 : Ref sig .tc := ⟨.hbm, 74, rfl⟩
abbrev main_while0b_v30 : Ref sig .tc := ⟨.hbm, 75, rfl⟩
abbrev main_while0b_v31 : Ref sig .tc := ⟨.hbm, 76, rfl⟩
abbrev main_while0b_v32 : Ref sig .tc := ⟨.hbm, 77, rfl⟩
abbrev main_while0b_cst_13 : Ref sig .tc := ⟨.hbm, 78, rfl⟩
abbrev main_while0b_v33 : Ref sig .tc := ⟨.hbm, 79, rfl⟩
abbrev main_while0b_v34 : Ref sig .tc := ⟨.hbm, 80, rfl⟩
abbrev main_while0b_v35 : Ref sig .tc := ⟨.hbm, 81, rfl⟩
abbrev main_while0b_cst_14 : Ref sig .tc := ⟨.hbm, 82, rfl⟩
abbrev main_while0b_v36 : Ref sig .tc := ⟨.hbm, 83, rfl⟩
abbrev main_while0b_v37 : Ref sig .tc := ⟨.hbm, 84, rfl⟩
abbrev main_while0b_v38 : Ref sig .tc := ⟨.hbm, 85, rfl⟩
abbrev main_while0b_v39 : Ref sig .tc := ⟨.hbm, 86, rfl⟩
abbrev main_while0b_v40 : Ref sig .tc := ⟨.hbm, 87, rfl⟩
abbrev main_while0b_cst_15 : Ref sig .tc := ⟨.hbm, 88, rfl⟩
abbrev main_while0b_v41 : Ref sig .tc := ⟨.hbm, 89, rfl⟩
abbrev main_while0b_v42 : Ref sig .tc := ⟨.hbm, 90, rfl⟩
abbrev main_while0b_v43 : Ref sig .tc := ⟨.hbm, 91, rfl⟩
abbrev main_while0b_c_16 : Ref sig .tc := ⟨.hbm, 92, rfl⟩
abbrev main_while0b_v44 : Ref sig .tc := ⟨.hbm, 93, rfl⟩
abbrev main_while0b_v45 : Ref sig .tc := ⟨.hbm, 94, rfl⟩
abbrev main_while0b_c_17 : Ref sig .tc := ⟨.hbm, 95, rfl⟩
abbrev main_while0b_v46 : Ref sig .tc := ⟨.hbm, 96, rfl⟩
abbrev main_while0b_v47 : Ref sig .tc := ⟨.hbm, 97, rfl⟩
abbrev main_while0b_v48 : Ref sig .tc := ⟨.hbm, 98, rfl⟩
abbrev main_while0b_c_18 : Ref sig .tc := ⟨.hbm, 99, rfl⟩
abbrev main_while0b_v49 : Ref sig .tc := ⟨.hbm, 100, rfl⟩
abbrev main_while0b_v50 : Ref sig .tc := ⟨.hbm, 101, rfl⟩
abbrev main_while0b_c_19 : Ref sig .tc := ⟨.hbm, 102, rfl⟩
abbrev main_while0b_v51 : Ref sig .tc := ⟨.hbm, 103, rfl⟩
abbrev main_while0b_v52 : Ref sig .tc := ⟨.hbm, 104, rfl⟩
abbrev main_while0b_v53 : Ref sig .tc := ⟨.hbm, 105, rfl⟩
abbrev main_while0b_v54 : Ref sig .tc := ⟨.hbm, 106, rfl⟩
abbrev main_while0b_v55 : Ref sig .tc := ⟨.hbm, 107, rfl⟩
abbrev main_while0b_v56 : Ref sig .tc := ⟨.hbm, 108, rfl⟩
abbrev main_while0b_v57 : Ref sig .tc := ⟨.hbm, 109, rfl⟩
abbrev main_while0b_v58 : Ref sig .tc := ⟨.hbm, 110, rfl⟩
abbrev main_while0b_cst_20 : Ref sig .tc := ⟨.hbm, 111, rfl⟩
abbrev main_while0b_v59 : Ref sig .tc := ⟨.hbm, 112, rfl⟩
abbrev main_while0b_cst_21 : Ref sig .tc := ⟨.hbm, 113, rfl⟩
abbrev main_while0b_v60 : Ref sig .tc := ⟨.hbm, 114, rfl⟩
abbrev main_while0b_c_22 : Ref sig .tc := ⟨.hbm, 115, rfl⟩
abbrev main_while0b_v61 : Ref sig .tc := ⟨.hbm, 116, rfl⟩
abbrev main_while0b_cst_23 : Ref sig .tc := ⟨.hbm, 117, rfl⟩
abbrev main_while0b_cst_24 : Ref sig .tc := ⟨.hbm, 118, rfl⟩
abbrev main_while0b_v62 : Ref sig .tc := ⟨.hbm, 119, rfl⟩
abbrev main_while0b_v63 : Ref sig .tc := ⟨.hbm, 120, rfl⟩
abbrev main_while0b_v64 : Ref sig .tc := ⟨.hbm, 121, rfl⟩
abbrev main_while0b_v65 : Ref sig .tc := ⟨.hbm, 122, rfl⟩
abbrev main_while0b_v66 : Ref sig .tc := ⟨.hbm, 123, rfl⟩
abbrev main_while0b_v67 : Ref sig .tc := ⟨.hbm, 124, rfl⟩
abbrev main_while0b_v68 : Ref sig .tc := ⟨.hbm, 125, rfl⟩
abbrev main_while0b_cst_25 : Ref sig .tc := ⟨.hbm, 126, rfl⟩
abbrev main_while0b_v69 : Ref sig .tc := ⟨.hbm, 127, rfl⟩
abbrev main_while0b_v70 : Ref sig .tc := ⟨.hbm, 128, rfl⟩
abbrev main_while0b_v71 : Ref sig .tc := ⟨.hbm, 129, rfl⟩
abbrev main_while0b_cst_26 : Ref sig .tc := ⟨.hbm, 130, rfl⟩
abbrev main_while0b_v72 : Ref sig .tc := ⟨.hbm, 131, rfl⟩
abbrev main_while0b_v73 : Ref sig .tc := ⟨.hbm, 132, rfl⟩
abbrev main_while0b_v74 : Ref sig .tc := ⟨.hbm, 133, rfl⟩
abbrev main_while0b_v75 : Ref sig .tc := ⟨.hbm, 134, rfl⟩
abbrev main_while0b_v76 : Ref sig .tc := ⟨.hbm, 135, rfl⟩
abbrev main_while0b_v77 : Ref sig .tc := ⟨.hbm, 136, rfl⟩
abbrev main_while0b_v78 : Ref sig .tc := ⟨.hbm, 137, rfl⟩
abbrev main_while0b_cst_27 : Ref sig .tc := ⟨.hbm, 138, rfl⟩
abbrev main_while0b_v79 : Ref sig .tc := ⟨.hbm, 139, rfl⟩
abbrev main_while0b_v80 : Ref sig .tc := ⟨.hbm, 140, rfl⟩
abbrev main_while0b_v81 : Ref sig .tc := ⟨.hbm, 141, rfl⟩
abbrev main_while0b_call5_v0 : Ref sig .tc := ⟨.hbm, 142, rfl⟩
abbrev main_while0b_call5_cst : Ref sig .tc := ⟨.hbm, 143, rfl⟩
abbrev main_while0b_call5_c : Ref sig .tc := ⟨.hbm, 144, rfl⟩
abbrev main_while0b_call5_v1_0 : Ref sig .tc := ⟨.hbm, 145, rfl⟩
abbrev main_while0b_v82 : Ref sig .tc := ⟨.hbm, 146, rfl⟩
abbrev main_while0b_call6_c : Ref sig .tc := ⟨.hbm, 147, rfl⟩
abbrev main_while0b_call6_v0 : Ref sig .tc := ⟨.hbm, 148, rfl⟩
abbrev main_while0b_call6_v1 : Ref sig .tc := ⟨.hbm, 149, rfl⟩
abbrev main_while0b_call6_c_0 : Ref sig .tc := ⟨.hbm, 150, rfl⟩
abbrev main_while0b_call6_v2 : Ref sig .tc := ⟨.hbm, 151, rfl⟩
abbrev main_while0b_call6_v3 : Ref sig .tc := ⟨.hbm, 152, rfl⟩
abbrev main_while0b_call6_v4 : Ref sig .tc := ⟨.hbm, 153, rfl⟩
abbrev main_while0b_call6_v5 : Ref sig .tc := ⟨.hbm, 154, rfl⟩
abbrev main_while0b_call6_c_1 : Ref sig .tc := ⟨.hbm, 155, rfl⟩
abbrev main_while0b_call6_c_2 : Ref sig .tc := ⟨.hbm, 156, rfl⟩
abbrev main_while0b_call6_v6 : Ref sig .tc := ⟨.hbm, 157, rfl⟩
abbrev main_while0b_call6_v7 : Ref sig .tc := ⟨.hbm, 158, rfl⟩
abbrev main_while0b_call6_v8 : Ref sig .tc := ⟨.hbm, 159, rfl⟩
abbrev main_while0b_call6_v9 : Ref sig .tc := ⟨.hbm, 160, rfl⟩
abbrev main_while0b_call6_v10 : Ref sig .tc := ⟨.hbm, 161, rfl⟩
abbrev main_while0b_call6_v11 : Ref sig .tc := ⟨.hbm, 162, rfl⟩
abbrev main_while0b_call6_c_3 : Ref sig .tc := ⟨.hbm, 163, rfl⟩
abbrev main_while0b_call6_v12 : Ref sig .tc := ⟨.hbm, 164, rfl⟩
abbrev main_while0b_call6_v13 : Ref sig .tc := ⟨.hbm, 165, rfl⟩
abbrev main_while0b_call6_v14 : Ref sig .tc := ⟨.hbm, 166, rfl⟩
abbrev main_while0b_call6_cst : Ref sig .tc := ⟨.hbm, 167, rfl⟩
abbrev main_while0b_call6_v15 : Ref sig .tc := ⟨.hbm, 168, rfl⟩
abbrev main_while0b_v83 : Ref sig .tc := ⟨.hbm, 169, rfl⟩
abbrev main_while0b_v84 : Ref sig .tc := ⟨.hbm, 170, rfl⟩
abbrev main_while0b_v85 : Ref sig .tc := ⟨.hbm, 171, rfl⟩
abbrev main_while0b_cst_28 : Ref sig .tc := ⟨.hbm, 172, rfl⟩
abbrev main_while0b_v86 : Ref sig .tc := ⟨.hbm, 173, rfl⟩
abbrev main_while0b_v87 : Ref sig .tc := ⟨.hbm, 174, rfl⟩
abbrev main_while0b_v88 : Ref sig .tc := ⟨.hbm, 175, rfl⟩
abbrev main_while0b_cst_29 : Ref sig .tc := ⟨.hbm, 176, rfl⟩
abbrev main_while0b_v89 : Ref sig .tc := ⟨.hbm, 177, rfl⟩
abbrev main_while0b_v90 : Ref sig .tc := ⟨.hbm, 178, rfl⟩
abbrev main_while0b_v91 : Ref sig .tc := ⟨.hbm, 179, rfl⟩
abbrev main_while0b_v92 : Ref sig .tc := ⟨.hbm, 180, rfl⟩
abbrev main_while0b_v93 : Ref sig .tc := ⟨.hbm, 181, rfl⟩
abbrev main_while0b_cst_30 : Ref sig .tc := ⟨.hbm, 182, rfl⟩
abbrev main_while0b_v94 : Ref sig .tc := ⟨.hbm, 183, rfl⟩
abbrev main_while0b_v95 : Ref sig .tc := ⟨.hbm, 184, rfl⟩
abbrev main_while0b_v96 : Ref sig .tc := ⟨.hbm, 185, rfl⟩
abbrev main_while0b_c_31 : Ref sig .tc := ⟨.hbm, 186, rfl⟩
abbrev main_while0b_v97 : Ref sig .tc := ⟨.hbm, 187, rfl⟩
abbrev main_while0b_v98 : Ref sig .tc := ⟨.hbm, 188, rfl⟩
abbrev main_while0b_c_32 : Ref sig .tc := ⟨.hbm, 189, rfl⟩
abbrev main_while0b_v99 : Ref sig .tc := ⟨.hbm, 190, rfl⟩
abbrev main_while0b_v100 : Ref sig .tc := ⟨.hbm, 191, rfl⟩
abbrev main_while0b_v101 : Ref sig .tc := ⟨.hbm, 192, rfl⟩
abbrev main_while0b_c_33 : Ref sig .tc := ⟨.hbm, 193, rfl⟩
abbrev main_while0b_v102 : Ref sig .tc := ⟨.hbm, 194, rfl⟩
abbrev main_while0b_v103 : Ref sig .tc := ⟨.hbm, 195, rfl⟩
abbrev main_while0b_c_34 : Ref sig .tc := ⟨.hbm, 196, rfl⟩
abbrev main_while0b_v104 : Ref sig .tc := ⟨.hbm, 197, rfl⟩
abbrev main_while0b_v105 : Ref sig .tc := ⟨.hbm, 198, rfl⟩
abbrev main_while0b_v106 : Ref sig .tc := ⟨.hbm, 199, rfl⟩
abbrev main_while0b_v107 : Ref sig .tc := ⟨.hbm, 200, rfl⟩
abbrev main_while0b_v108 : Ref sig .tc := ⟨.hbm, 201, rfl⟩
abbrev main_while0b_v109 : Ref sig .tc := ⟨.hbm, 202, rfl⟩
abbrev main_while0b_v110 : Ref sig .tc := ⟨.hbm, 203, rfl⟩
abbrev main_while0b_v111 : Ref sig .tc := ⟨.hbm, 204, rfl⟩
abbrev main_while0b_cst_35 : Ref sig .tc := ⟨.hbm, 205, rfl⟩
abbrev main_while0b_v112 : Ref sig .tc := ⟨.hbm, 206, rfl⟩
abbrev main_while0b_cst_36 : Ref sig .tc := ⟨.hbm, 207, rfl⟩
abbrev main_while0b_v113 : Ref sig .tc := ⟨.hbm, 208, rfl⟩
abbrev main_while0b_c_37 : Ref sig .tc := ⟨.hbm, 209, rfl⟩
abbrev main_while0b_v114 : Ref sig .tc := ⟨.hbm, 210, rfl⟩
abbrev main_while0b_cst_38 : Ref sig .tc := ⟨.hbm, 211, rfl⟩
abbrev main_while0b_cst_39 : Ref sig .tc := ⟨.hbm, 212, rfl⟩
abbrev main_while0b_v115 : Ref sig .tc := ⟨.hbm, 213, rfl⟩
abbrev main_while0b_v116 : Ref sig .tc := ⟨.hbm, 214, rfl⟩
abbrev main_while0b_v117 : Ref sig .tc := ⟨.hbm, 215, rfl⟩
abbrev main_while0b_v118 : Ref sig .tc := ⟨.hbm, 216, rfl⟩
abbrev main_while0b_v119 : Ref sig .tc := ⟨.hbm, 217, rfl⟩
abbrev main_while0b_v120 : Ref sig .tc := ⟨.hbm, 218, rfl⟩
abbrev main_while0b_v121 : Ref sig .tc := ⟨.hbm, 219, rfl⟩
abbrev main_while0b_v122 : Ref sig .tc := ⟨.hbm, 220, rfl⟩
abbrev main_while0b_v123 : Ref sig .tc := ⟨.hbm, 221, rfl⟩
abbrev main_while0b_cst_40 : Ref sig .tc := ⟨.hbm, 222, rfl⟩
abbrev main_while0b_v124 : Ref sig .tc := ⟨.hbm, 223, rfl⟩
abbrev main_while0b_cst_41 : Ref sig .tc := ⟨.hbm, 224, rfl⟩
abbrev main_while0b_v125 : Ref sig .tc := ⟨.hbm, 225, rfl⟩
abbrev main_while0b_cst_42 : Ref sig .tc := ⟨.hbm, 226, rfl⟩
abbrev main_while0b_v126 : Ref sig .tc := ⟨.hbm, 227, rfl⟩
abbrev main_while0b_v127 : Ref sig .tc := ⟨.hbm, 228, rfl⟩
abbrev main_while0b_v128 : Ref sig .tc := ⟨.hbm, 229, rfl⟩
abbrev main_while0b_cst_43 : Ref sig .tc := ⟨.hbm, 230, rfl⟩
abbrev main_while0b_v129 : Ref sig .tc := ⟨.hbm, 231, rfl⟩
abbrev main_while0b_cst_44 : Ref sig .tc := ⟨.hbm, 232, rfl⟩
abbrev main_while0b_v130 : Ref sig .tc := ⟨.hbm, 233, rfl⟩
abbrev main_while0b_cst_45 : Ref sig .tc := ⟨.hbm, 234, rfl⟩
abbrev main_while0b_v131 : Ref sig .tc := ⟨.hbm, 235, rfl⟩
abbrev main_while0b_v132 : Ref sig .tc := ⟨.hbm, 236, rfl⟩
abbrev main_while0b_v133 : Ref sig .tc := ⟨.hbm, 237, rfl⟩
abbrev main_while0b_v134 : Ref sig .tc := ⟨.hbm, 238, rfl⟩
abbrev main_while0b_cst_46 : Ref sig .tc := ⟨.hbm, 239, rfl⟩
abbrev main_while0b_v135 : Ref sig .tc := ⟨.hbm, 240, rfl⟩
abbrev main_while0b_cst_47 : Ref sig .tc := ⟨.hbm, 241, rfl⟩
abbrev main_while0b_v136 : Ref sig .tc := ⟨.hbm, 242, rfl⟩
abbrev main_while0b_cst_48 : Ref sig .tc := ⟨.hbm, 243, rfl⟩
abbrev main_while0b_v137 : Ref sig .tc := ⟨.hbm, 244, rfl⟩
abbrev main_while0b_v138 : Ref sig .tc := ⟨.hbm, 245, rfl⟩
abbrev main_while0b_v139 : Ref sig .tc := ⟨.hbm, 246, rfl⟩
abbrev main_while0b_v140 : Ref sig .tc := ⟨.hbm, 247, rfl⟩
abbrev main_while0b_v141 : Ref sig .tc := ⟨.hbm, 248, rfl⟩
abbrev main_while0b_v142 : Ref sig .tc := ⟨.hbm, 249, rfl⟩
abbrev main_while0b_v143 : Ref sig .tc := ⟨.hbm, 250, rfl⟩
abbrev main_while0b_v144 : Ref sig .tc := ⟨.hbm, 251, rfl⟩
abbrev main_while0b_v145 : Ref sig .tc := ⟨.hbm, 252, rfl⟩
abbrev main_while0b_call8_v0 : Ref sig .tc := ⟨.hbm, 253, rfl⟩
abbrev main_while0b_v146 : Ref sig .tc := ⟨.hbm, 254, rfl⟩
abbrev main_while0b_call9_v0 : Ref sig .tc := ⟨.hbm, 255, rfl⟩
abbrev main_while0b_call9_c : Ref sig .tc := ⟨.hbm, 256, rfl⟩
abbrev main_while0b_call9_c_0 : Ref sig .tc := ⟨.hbm, 257, rfl⟩
abbrev main_while0b_v147 : Ref sig .tc := ⟨.hbm, 258, rfl⟩
abbrev main_while0b_c_49 : Ref sig .tc := ⟨.hbm, 259, rfl⟩
abbrev main_while0b_v148 : Ref sig .tc := ⟨.hbm, 260, rfl⟩
abbrev main_cst_2 : Ref sig .tc := ⟨.hbm, 261, rfl⟩
abbrev main_v5 : Ref sig .tc := ⟨.hbm, 262, rfl⟩
abbrev main_cst_3 : Ref sig .tc := ⟨.hbm, 263, rfl⟩
abbrev main_v6 : Ref sig .tc := ⟨.hbm, 264, rfl⟩
abbrev main_v7 : Ref sig .tc := ⟨.hbm, 265, rfl⟩

abbrev nD : Nat := 1
abbrev τ : Topo := Topo.v7x

variable {F : FTy → Type} [FloatOps F]

abbrev main_while0_count : Scf.Loop 32 := ⟨0#32, 8#32, 1#32⟩
-- ==== Proof.RefRun.lean ====
/- The reference's run: its host loop as lists of operations, and every buffer after the run as the fold of those lists. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

-- a long stretch's `::` list and the decided enumerations over the program's references recurse past the default depth
set_option maxRecDepth 1576

noncomputable section

namespace Cert.ReferenceIdeal.Fold

open Idealize.ShloMosaic Idealize.ShloMosaic.TcCoe Cert.ReferenceIdeal.Gen
open Idealize.SL Idealize.SL.RA Idealize.SL.BI
open scoped Idealize.SL.BI
open Idealize.SL.BI.BIBase Idealize.SL.Sem

variable {F : FTy → Type} [FloatOps F]
/-! ## The program as lists of operations -/

/-- 15 host operations of @main, in order. -/
abbrev hostOps0 : List (HloOp τ sig (Elt F)) :=
  [ StableHlo.nullary main_cst (constant S_ .f32 0x00000000#32),
    StableHlo.unary main_cst main_v0 (broadcastInDim S16x512x2048 ![] bcast_S_S16x512x2048 : (⟨S_, .f32⟩ : BufTy).Contents (Elt F) → (⟨S16x512x2048, .f32⟩ : BufTy).Contents (Elt F)),
    StableHlo.nullary main_v1 (iotaInDim S8 32 0),
    StableHlo.nullary main_cst_0 (constant S_ .f32 0x00000000#32),
    StableHlo.unary main_cst_0 main_v2 (broadcastInDim S8 ![] bcast_S_S8 : (⟨S_, .f32⟩ : BufTy).Contents (Elt F) → (⟨S8, .f32⟩ : BufTy).Contents (Elt F)),
    StableHlo.nullary main_c (constantI S_ 32 0#32),
    StableHlo.unary main_c main_v3 (broadcastInDim S8x2x32768 ![] bcast_S_S8x2x32768 : (⟨S_, .i32⟩ : BufTy).Contents (Elt F) → (⟨S8x2x32768, .i32⟩ : BufTy).Contents (Elt F)),
    StableHlo.nullary main_c_1 (constantI S_ 32 0#32),
    StableHlo.unary main_v1 main_v4_0 id,
    StableHlo.unary main_arg1 main_v4_1 id,
    StableHlo.unary main_c_1 main_v4_2 id,
    StableHlo.unary main_v0 main_v4_3 id,
    StableHlo.unary main_arg0 main_v4_4 id,
    StableHlo.unary main_v2 main_v4_5 id,
    StableHlo.unary main_v3 main_v4_6 id ]
/-- 5 host operations of @main, in order. -/
abbrev hostOps0_1 : List (HloOp τ sig (Elt F)) :=
  [ StableHlo.nullary main_cst_2 (constant S_ .f32 0x00000000#32),
    StableHlo.binary main_v4_5 main_cst_2 main_v5 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    StableHlo.nullary main_cst_3 (constant S_ .f32 0x41000000#32),
    StableHlo.binary main_v5 main_cst_3 main_v6 (Host.divf : (⟨S_, .f32⟩ : BufTy).Contents (Elt F) → (⟨S_, .f32⟩ : BufTy).Contents (Elt F) → (⟨S_, .f32⟩ : BufTy).Contents (Elt F)),
    StableHlo.reshape main_v4_6 main_v7 (rfl : (.i32 : EltTy) = .i32) shapeCasts_S8x2x32768_S16x32768 ]
/-- The program is its first stretch, the loop, and its last stretch. -/
theorem main_chain (c : Dev nD) : main (F := F) c = (Pipeline.chain
  [ StableHlo.seq hostOps0,
    HostLoop.enter 0,
    StableHlo.seq hostOps0_1 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons]
  chain_rfl

/-- 2 host operations of @dynamic_index_in_dim (main_while0b_call0), in order. -/
abbrev while0Ops0 : List (HloOp τ sig (Elt F)) :=
  [ StableHlo.TRef.unaryIndexed (.of main_v4_0 : StableHlo.TRef sig ⟨S8, .i32⟩) ![(.of main_v4_2 : StableHlo.TRef sig ⟨S_, .i32⟩)] (.of main_while0b_call0_v0 : StableHlo.TRef sig ⟨S1, .i32⟩) (fun x i => Host.dynamicSlice S1 x (fun k => (i k (Shape.Idx.first h_S_)).toInt) sliceFits_S8_S1),
    StableHlo.TRef.reshape (.of main_while0b_call0_v0 : StableHlo.TRef sig ⟨S1, .i32⟩) (.of main_while0b_v8 : StableHlo.TRef sig ⟨S_, .i32⟩) (rfl : (.i32 : EltTy) = .i32) shapeCasts_S1_S_ ]
/-- 5 host operations of @dynamic_index_in_dim_0 (main_while0b_call1), in order. -/
abbrev while0Ops0_1 : List (HloOp τ sig (Elt F)) :=
  [ StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.nullary (.of main_while0b_call1_c_1 : StableHlo.TRef sig ⟨S_, .i32⟩) (constantI S_ 32 0#32),
    StableHlo.TRef.unaryIndexed (.of main_v4_1 : StableHlo.TRef sig ⟨S8x2x1024x256, .f32⟩) ![(.of main_v4_2 : StableHlo.TRef sig ⟨S_, .i32⟩), (.of main_while0b_call1_c : StableHlo.TRef sig ⟨S_, .i32⟩), (.of main_while0b_call1_c_0 : StableHlo.TRef sig ⟨S_, .i32⟩), (.of main_while0b_call1_c_1 : StableHlo.TRef sig ⟨S_, .i32⟩)] (.of main_while0b_call1_v0 : StableHlo.TRef sig ⟨S1x2x1024x256, .f32⟩) (fun x i => Host.dynamicSlice S1x2x1024x256 x (fun k => (i k (Shape.Idx.first h_S_)).toInt) sliceFits_S8x2x1024x256_S1x2x1024x256),
    StableHlo.TRef.reshape (.of main_while0b_call1_v0 : StableHlo.TRef sig ⟨S1x2x1024x256, .f32⟩) (.of main_while0b_v9 : StableHlo.TRef sig ⟨S2x1024x256, .f32⟩) (rfl : (.f32 : EltTy) = .f32) shapeCasts_S1x2x1024x256_S2x1024x256 ]
/-- 22 host operations of host loop 0's body region, in order. -/
abbrev while0Ops0_2 : List (HloOp τ sig (Elt F)) :=
  [ StableHlo.unary main_v4_4 main_while0b_v10 ((transpose S16x2048x512 [0, 2, 1] · transposes_S16x512x2048_S16x2048x512_0_2_1) : (⟨S16x512x2048, .f32⟩ : BufTy).Contents (Elt F) → (⟨S16x2048x512, .f32⟩ : BufTy).Contents (Elt F)),
    StableHlo.reshape main_while0b_v10 main_while0b_v11 (rfl : (.f32 : EltTy) = .f32) shapeCasts_S16x2048x512_S32768x512,
    StableHlo.unary main_while0b_v11 main_while0b_v12 ((extractStridedSlice S32768x256 ![0, 0] · slices_S32768x512_S32768x256_0_0) : (⟨S32768x512, .f32⟩ : BufTy).Contents (Elt F) → (⟨S32768x256, .f32⟩ : BufTy).Contents (Elt F)),
    StableHlo.unary main_while0b_v9 main_while0b_v13 ((extractStridedSlice S1x1024x256 ![0, 0, 0] · slices_S2x1024x256_S1x1024x256_0_0_0) : (⟨S2x1024x256, .f32⟩ : BufTy).Contents (Elt F) → (⟨S1x1024x256, .f32⟩ : BufTy).Contents (Elt F)),
    StableHlo.reshape main_while0b_v13 main_while0b_v14 (rfl : (.f32 : EltTy) = .f32) shapeCasts_S1x1024x256_S1024x256,
    StableHlo.binary main_while0b_v12 main_while0b_v12 main_while0b_v15 (mulf : (⟨S32768x256, .f32⟩ : BufTy).Contents (Elt F) → (⟨S32768x256, .f32⟩ : BufTy).Contents (Elt F) → (⟨S32768x256, .f32⟩ : BufTy).Contents (Elt F)),
    StableHlo.nullary main_while0b_cst_10 (constant S_ .f32 0x00000000#32),
    StableHlo.binary main_while0b_v15 main_while0b_cst_10 main_while0b_v16 ((fun x v => Host.reduceAdd x v reducesTo_S32768x256_S32768_d1 h_S_) : (⟨S32768x256, .f32⟩ : BufTy).Contents (Elt F) → (⟨S_, .f32⟩ : BufTy).Contents (Elt F) → (⟨S32768, .f32⟩ : BufTy).Contents (Elt F)),
    StableHlo.unary main_while0b_v16 main_while0b_v17 (broadcastInDim S32768x1 ![0] bcast_S32768_S32768x1_0 : (⟨S32768, .f32⟩ : BufTy).Contents (Elt F) → (⟨S32768x1, .f32⟩ : BufTy).Contents (Elt F)),
    StableHlo.binary main_while0b_v14 main_while0b_v14 main_while0b_v18 (mulf : (⟨S1024x256, .f32⟩ : BufTy).Contents (Elt F) → (⟨S1024x256, .f32⟩ : BufTy).Contents (Elt F) → (⟨S1024x256, .f32⟩ : BufTy).Contents (Elt F)),
    StableHlo.nullary main_while0b_cst_11 (constant S_ .f32 0x00000000#32),
    StableHlo.binary main_while0b_v18 main_while0b_cst_11 main_while0b_v19 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    StableHlo.unary main_while0b_v19 main_while0b_v20 (broadcastInDim S1x1024 ![1] bcast_S1024_S1x1024_1 : (⟨S1024, .f32⟩ : BufTy).Contents (Elt F) → (⟨S1x1024, .f32⟩ : BufTy).Contents (Elt F)),
    StableHlo.unary main_while0b_v17 main_while0b_v21 (broadcastInDim S32768x1024 ![0, 1] bcast_S32768x1_S32768x1024_0_1 : (⟨S32768x1, .f32⟩ : BufTy).Contents (Elt F) → (⟨S32768x1024, .f32⟩ : BufTy).Contents (Elt F)),
    StableHlo.unary main_while0b_v20 main_while0b_v22 (broadcastInDim S32768x1024 ![0, 1] bcast_S1x1024_S32768x1024_0_1 : (⟨S1x1024, .f32⟩ : BufTy).Contents (Elt F) → (⟨S32768x1024, .f32⟩ : BufTy).Contents (Elt F)),
    StableHlo.binary main_while0b_v21 main_while0b_v22 main_while0b_v23 (addf : (⟨S32768x1024, .f32⟩ : BufTy).Contents (Elt F) → (⟨S32768x1024, .f32⟩ : BufTy).Contents (Elt F) → (⟨S32768x1024, .f32⟩ : BufTy).Contents (Elt F)),
    StableHlo.unary main_while0b_v14 main_while0b_v24 ((transpose S256x1024 [1, 0] · transposes_S1024x256_S256x1024_1_0) : (⟨S1024x256, .f32⟩ : BufTy).Contents (Elt F) → (⟨S256x1024, .f32⟩ : BufTy).Contents (Elt F)),
    StableHlo.binary main_while0b_v12 main_while0b_v24 main_while0b_v25 ((fun l r => Host.dotGeneral dot_S32768x256_S256x1024_S32768x1024_1_0_0_1_n_n none l r) : (⟨S32768x256, .f32⟩ : BufTy).Contents (Elt F) → (⟨S256x1024, .f32⟩ : BufTy).Contents (Elt F) → (⟨S32768x1024, .f32⟩ : BufTy).Contents (Elt F)),
    StableHlo.nullary main_while0b_cst_12 (constant S_ .f32 0x40000000#32),
    StableHlo.unary main_while0b_cst_12 main_while0b_v26 (broadcastInDim S32768x1024 ![] bcast_S_S32768x1024 : (⟨S_, .f32⟩ : BufTy).Contents (Elt F) → (⟨S32768x1024, .f32⟩ : BufTy).Contents (Elt F)),
    StableHlo.binary main_while0b_v26 main_while0b_v25 main_while0b_v27 (mulf : (⟨S32768x1024, .f32⟩ : BufTy).Contents (Elt F) → (⟨S32768x1024, .f32⟩ : BufTy).Contents (Elt F) → (⟨S32768x1024, .f32⟩ : BufTy).Contents (Elt F)),
    StableHlo.binary main_while0b_v23 main_while0b_v27 main_while0b_v28 (subf : (⟨S32768x1024, .f32⟩ : BufTy).Contents (Elt F) → (⟨S32768x1024, .f32⟩ : BufTy).Contents (Elt F) → (⟨S32768x1024, .f32⟩ : BufTy).Contents (Elt F)) ]
/-- 5 host operations of @argmin (main_while0b_call2), in order. -/
abbrev while0Ops0_3 : List (HloOp τ sig (Elt F)) :=
  [ StableHlo.TRef.nullary (.of main_while0b_call2_v0 : StableHlo.TRef sig ⟨S32768x1024, .i32⟩) (iotaInDim S32768x1024 32 1),
    StableHlo.TRef.nullary (.of main_while0b_call2_cst : StableHlo.TRef sig ⟨S_, .f32⟩) (constant S_ .f32 0x7F800000#32),
    StableHlo.TRef.nullary (.of main_while0b_call2_c : StableHlo.TRef sig ⟨S_, .i32⟩) (constantI S_ 32 0#32),
    StableHlo.TRef.quaternary (.of main_while0b_v28 : StableHlo.TRef sig ⟨S32768x1024, .f32⟩) (.of main_while0b_call2_v0 : StableHlo.TRef sig ⟨S32768x1024, .i32⟩) (.of main_while0b_call2_cst : StableHlo.TRef sig ⟨S_, .f32⟩) (.of main_while0b_call2_c : StableHlo.TRef sig ⟨S_, .i32⟩) (.of main_while0b_call2_v1_0 : StableHlo.TRef sig ⟨S32768, .f32⟩) (fun x y u v j => (Host.argReduce reducer_argmin_f32_i32 x y u v reducesTo_S32768x1024_S32768_d1 h_S_ j).1),
    StableHlo.TRef.quaternary (.of main_while0b_v28 : StableHlo.TRef sig ⟨S32768x1024, .f32⟩) (.of main_while0b_call2_v0 : StableHlo.TRef sig ⟨S32768x1024, .i32⟩) (.of main_while0b_call2_cst : StableHlo.TRef sig ⟨S_, .f32⟩) (.of main_while0b_call2_c : StableHlo.TRef sig ⟨S_, .i32⟩) (.of main_while0b_v29 : StableHlo.TRef sig ⟨S32768, .i32⟩) (fun x y u v j => (Host.argReduce reducer_argmin_f32_i32 x y u v reducesTo_S32768x1024_S32768_d1 h_S_ j).2) ]
/-- 23 host operations of @_take (main_while0b_call3), in order. -/
abbrev while0Ops0_4 : List (HloOp τ sig (Elt F)) :=
  [ StableHlo.TRef.nullary (.of main_while0b_call3_c : StableHlo.TRef sig ⟨S_, .i32⟩) (constantI S_ 32 0#32),
    StableHlo.TRef.unary (.of main_while0b_call3_c : StableHlo.TRef sig ⟨S_, .i32⟩) (.of main_while0b_call3_v0 : StableHlo.TRef sig ⟨S32768, .i32⟩) (broadcastInDim S32768 ![] bcast_S_S32768),
    StableHlo.TRef.binary (.of main_while0b_v29 : StableHlo.TRef sig ⟨S32768, .i32⟩) (.of main_while0b_call3_v0 : StableHlo.TRef sig ⟨S32768, .i32⟩) (.of main_while0b_call3_v1 : StableHlo.TRef sig ⟨S32768, .i1⟩) (cmpi .slt),
    StableHlo.TRef.nullary (.of main_while0b_call3_c_0 : StableHlo.TRef sig ⟨S_, .i32⟩) (constantI S_ 32 1024#32),
    StableHlo.TRef.unary (.of main_while0b_call3_c_0 : StableHlo.TRef sig ⟨S_, .i32⟩) (.of main_while0b_call3_v2 : StableHlo.TRef sig ⟨S32768, .i32⟩) (broadcastInDim S32768 ![] bcast_S_S32768),
    StableHlo.TRef.binary (.of main_while0b_v29 : StableHlo.TRef sig ⟨S32768, .i32⟩) (.of main_while0b_call3_v2 : StableHlo.TRef sig ⟨S32768, .i32⟩) (.of main_while0b_call3_v3 : StableHlo.TRef sig ⟨S32768, .i32⟩) addi,
    StableHlo.TRef.ternary (.of main_while0b_call3_v1 : StableHlo.TRef sig ⟨S32768, .i1⟩) (.of main_while0b_call3_v3 : StableHlo.TRef sig ⟨S32768, .i32⟩) (.of main_while0b_v29 : StableHlo.TRef sig ⟨S32768, .i32⟩) (.of main_while0b_call3_v4 : StableHlo.TRef sig ⟨S32768, .i32⟩) select,
    StableHlo.TRef.unary (.of main_while0b_call3_v4 : StableHlo.TRef sig ⟨S32768, .i32⟩) (.of main_while0b_call3_v5 : StableHlo.TRef sig ⟨S32768x1, .i32⟩) (broadcastInDim S32768x1 ![0] bcast_S32768_S32768x1_0),
    StableHlo.TRef.nullary (.of main_while0b_call3_c_1 : StableHlo.TRef sig ⟨S1, .i32⟩) (constantI S1 32 1023#32),
    StableHlo.TRef.nullary (.of main_while0b_call3_c_2 : StableHlo.TRef sig ⟨S_, .i32⟩) (constantI S_ 32 0#32),
    StableHlo.TRef.unary (.of main_while0b_call3_c_2 : StableHlo.TRef sig ⟨S_, .i32⟩) (.of main_while0b_call3_v6 : StableHlo.TRef sig ⟨S32768x1, .i32⟩) (broadcastInDim S32768x1 ![] bcast_S_S32768x1),
    StableHlo.TRef.binary (.of main_while0b_call3_v5 : StableHlo.TRef sig ⟨S32768x1, .i32⟩) (.of main_while0b_call3_v6 : StableHlo.TRef sig ⟨S32768x1, .i32⟩) (.of main_while0b_call3_v7 : StableHlo.TRef sig ⟨S32768x1, .i1⟩) (cmpi .sge),
    StableHlo.TRef.unary (.of main_while0b_call3_c_1 : StableHlo.TRef sig ⟨S1, .i32⟩) (.of main_while0b_call3_v8 : StableHlo.TRef sig ⟨S1x1, .i32⟩) (broadcastInDim S1x1 ![1] bcast_S1_S1x1_1),
    StableHlo.TRef.unary (.of main_while0b_call3_v8 : StableHlo.TRef sig ⟨S1x1, .i32⟩) (.of main_while0b_call3_v9 : StableHlo.TRef sig ⟨S32768x1, .i32⟩) (broadcastInDim S32768x1 ![0, 1] bcast_S1x1_S32768x1_0_1),
    StableHlo.TRef.binary (.of main_while0b_call3_v5 : StableHlo.TRef sig ⟨S32768x1, .i32⟩) (.of main_while0b_call3_v9 : StableHlo.TRef sig ⟨S32768x1, .i32⟩) (.of main_while0b_call3_v10 : StableHlo.TRef sig ⟨S32768x1, .i1⟩) (cmpi .sle),
    StableHlo.TRef.binary (.of main_while0b_call3_v7 : StableHlo.TRef sig ⟨S32768x1, .i1⟩) (.of main_while0b_call3_v10 : StableHlo.TRef sig ⟨S32768x1, .i1⟩) (.of main_while0b_call3_v11 : StableHlo.TRef sig ⟨S32768x1, .i1⟩) andi,
    StableHlo.TRef.nullary (.of main_while0b_call3_c_3 : StableHlo.TRef sig ⟨S_, .i1⟩) (constantI S_ 1 1#1),
    StableHlo.TRef.binary (.of main_while0b_call3_v11 : StableHlo.TRef sig ⟨S32768x1, .i1⟩) (.of main_while0b_call3_c_3 : StableHlo.TRef sig ⟨S_, .i1⟩) (.of main_while0b_call3_v12 : StableHlo.TRef sig ⟨S32768, .i1⟩) (fun x v => Host.reduce IntOp.andi x v reducesTo_S32768x1_S32768_d1 h_S_),
    StableHlo.TRef.binary (.of main_while0b_v14 : StableHlo.TRef sig ⟨S1024x256, .f32⟩) (.of main_while0b_call3_v5 : StableHlo.TRef sig ⟨S32768x1, .i32⟩) (.of main_while0b_call3_v13 : StableHlo.TRef sig ⟨S32768x256, .f32⟩) (fun x i => Host.gather gather_S1024x256_S32768x1_S32768x256_1_0_n_n_0_1_1256 x i),
    StableHlo.TRef.unary (.of main_while0b_call3_v12 : StableHlo.TRef sig ⟨S32768, .i1⟩) (.of main_while0b_call3_v14 : StableHlo.TRef sig ⟨S32768x256, .i1⟩) (broadcastInDim S32768x256 ![0] bcast_S32768_S32768x256_0),
    StableHlo.TRef.nullary (.of main_while0b_call3_cst : StableHlo.TRef sig ⟨S_, .f32⟩) (constant S_ .f32 0x7FC00000#32),
    StableHlo.TRef.unary (.of main_while0b_call3_cst : StableHlo.TRef sig ⟨S_, .f32⟩) (.of main_while0b_call3_v15 : StableHlo.TRef sig ⟨S32768x256, .f32⟩) (broadcastInDim S32768x256 ![] bcast_S_S32768x256),
    StableHlo.TRef.ternary (.of main_while0b_call3_v14 : StableHlo.TRef sig ⟨S32768x256, .i1⟩) (.of main_while0b_call3_v13 : StableHlo.TRef sig ⟨S32768x256, .f32⟩) (.of main_while0b_call3_v15 : StableHlo.TRef sig ⟨S32768x256, .f32⟩) (.of main_while0b_v30 : StableHlo.TRef sig ⟨S32768x256, .f32⟩) select ]
/-- 43 host operations of host loop 0's body region, in order. -/
abbrev while0Ops0_5 : List (HloOp τ sig (Elt F)) :=
  ( StableHlo.unary main_while0b_v14 main_while0b_v31 ((transpose S256x1024 [1, 0] · transposes_S1024x256_S256x1024_1_0) : (⟨S1024x256, .f32⟩ : BufTy).Contents (Elt F) → (⟨S256x1024, .f32⟩ : BufTy).Contents (Elt F))
  :: StableHlo.binary main_while0b_v14 main_while0b_v31 main_while0b_v32 ((fun l r => Host.dotGeneral dot_S1024x256_S256x1024_S1024x1024_1_0_0_1_n_n none l r) : (⟨S1024x256, .f32⟩ : BufTy).Contents (Elt F) → (⟨S256x1024, .f32⟩ : BufTy).Contents (Elt F) → (⟨S1024x1024, .f32⟩ : BufTy).Contents (Elt F))
  :: StableHlo.nullary main_while0b_cst_13 (constant S_ .f32 0x40400000#32)
  :: StableHlo.unary main_while0b_cst_13 main_while0b_v33 (broadcastInDim S1024x1024 ![] bcast_S_S1024x1024 : (⟨S_, .f32⟩ : BufTy).Contents (Elt F) → (⟨S1024x1024, .f32⟩ : BufTy).Contents (Elt F))
  :: StableHlo.binary main_while0b_v32 main_while0b_v33 main_while0b_v34 (mulf : (⟨S1024x1024, .f32⟩ : BufTy).Contents (Elt F) → (⟨S1024x1024, .f32⟩ : BufTy).Contents (Elt F) → (⟨S1024x1024, .f32⟩ : BufTy).Contents (Elt F))
  :: StableHlo.nullary main_while0b_v35 (iotaInDim S1024 32 0)
  :: StableHlo.nullary main_while0b_cst_14 (constant S_ .f32 0xFF800000#32)
  :: StableHlo.binary main_while0b_v34 main_while0b_cst_14 main_while0b_v36 ((fun x v => Host.reduce FloatOps.maximumf x v reducesTo_S1024x1024_S1024_d1 h_S_) : (⟨S1024x1024, .f32⟩ : BufTy).Contents (Elt F) → (⟨S_, .f32⟩ : BufTy).Contents (Elt F) → (⟨S1024, .f32⟩ : BufTy).Contents (Elt F))
  :: StableHlo.unary main_while0b_v36 main_while0b_v37 (broadcastInDim S1024x1 ![0] bcast_S1024_S1024x1_0 : (⟨S1024, .f32⟩ : BufTy).Contents (Elt F) → (⟨S1024x1, .f32⟩ : BufTy).Contents (Elt F))
  :: StableHlo.unary main_while0b_v37 main_while0b_v38 (broadcastInDim S1024x1024 ![0, 1] bcast_S1024x1_S1024x1024_0_1 : (⟨S1024x1, .f32⟩ : BufTy).Contents (Elt F) → (⟨S1024x1024, .f32⟩ : BufTy).Contents (Elt F))
  :: StableHlo.binary main_while0b_v34 main_while0b_v38 main_while0b_v39 (subf : (⟨S1024x1024, .f32⟩ : BufTy).Contents (Elt F) → (⟨S1024x1024, .f32⟩ : BufTy).Contents (Elt F) → (⟨S1024x1024, .f32⟩ : BufTy).Contents (Elt F))
  :: StableHlo.unary main_while0b_v39 main_while0b_v40 (Host.exp : (⟨S1024x1024, .f32⟩ : BufTy).Contents (Elt F) → (⟨S1024x1024, .f32⟩ : BufTy).Contents (Elt F))
  :: StableHlo.nullary main_while0b_cst_15 (constant S_ .f32 0x00000000#32)
  :: StableHlo.binary main_while0b_v40 main_while0b_cst_15 main_while0b_v41 ((fun x v => Host.reduceAdd x v reducesTo_S1024x1024_S1024_d1 h_S_) : (⟨S1024x1024, .f32⟩ : BufTy).Contents (Elt F) → (⟨S_, .f32⟩ : BufTy).Contents (Elt F) → (⟨S1024, .f32⟩ : BufTy).Contents (Elt F))
  :: StableHlo.unary main_while0b_v41 main_while0b_v42 (Host.log : (⟨S1024, .f32⟩ : BufTy).Contents (Elt F) → (⟨S1024, .f32⟩ : BufTy).Contents (Elt F))
  :: StableHlo.binary main_while0b_v42 main_while0b_v36 main_while0b_v43 (addf : (⟨S1024, .f32⟩ : BufTy).Contents (Elt F) → (⟨S1024, .f32⟩ : BufTy).Contents (Elt F) → (⟨S1024, .f32⟩ : BufTy).Contents (Elt F))
  :: StableHlo.nullary main_while0b_c_16 (constantI S_ 32 0#32)
  :: StableHlo.unary main_while0b_c_16 main_while0b_v44 (broadcastInDim S1024 ![] bcast_S_S1024 : (⟨S_, .i32⟩ : BufTy).Contents (Elt F) → (⟨S1024, .i32⟩ : BufTy).Contents (Elt F))
  :: StableHlo.binary main_while0b_v35 main_while0b_v44 main_while0b_v45 (cmpi .slt : (⟨S1024, .i32⟩ : BufTy).Contents (Elt F) → (⟨S1024, .i32⟩ : BufTy).Contents (Elt F) → (⟨S1024, .i1⟩ : BufTy).Contents (Elt F))
  :: StableHlo.nullary main_while0b_c_17 (constantI S_ 32 1024#32)
  :: StableHlo.unary main_while0b_c_17 main_while0b_v46 (broadcastInDim S1024 ![] bcast_S_S1024 : (⟨S_, .i32⟩ : BufTy).Contents (Elt F) → (⟨S1024, .i32⟩ : BufTy).Contents (Elt F))
  :: StableHlo.binary main_while0b_v35 main_while0b_v46 main_while0b_v47 (addi : (⟨S1024, .i32⟩ : BufTy).Contents (Elt F) → (⟨S1024, .i32⟩ : BufTy).Contents (Elt F) → (⟨S1024, .i32⟩ : BufTy).Contents (Elt F))
  :: StableHlo.ternary main_while0b_v45 main_while0b_v47 main_while0b_v35 main_while0b_v48 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.nullary main_while0b_c_18 (constantI S_ 32 0#32)
  :: StableHlo.unary main_while0b_c_18 main_while0b_v49 (broadcastInDim S1024 ![] bcast_S_S1024 : (⟨S_, .i32⟩ : BufTy).Contents (Elt F) → (⟨S1024, .i32⟩ : BufTy).Contents (Elt F))
  :: StableHlo.binary main_while0b_v35 main_while0b_v49 main_while0b_v50 (cmpi .slt : (⟨S1024, .i32⟩ : BufTy).Contents (Elt F) → (⟨S1024, .i32⟩ : BufTy).Contents (Elt F) → (⟨S1024, .i1⟩ : BufTy).Contents (Elt F))
  :: StableHlo.nullary main_while0b_c_19 (constantI S_ 32 1024#32)
  :: StableHlo.unary main_while0b_c_19 main_while0b_v51 (broadcastInDim S1024 ![] bcast_S_S1024 : (⟨S_, .i32⟩ : BufTy).Contents (Elt F) → (⟨S1024, .i32⟩ : BufTy).Contents (Elt F))
  :: StableHlo.binary main_while0b_v35 main_while0b_v51 main_while0b_v52 (addi : (⟨S1024, .i32⟩ : BufTy).Contents (Elt F) → (⟨S1024, .i32⟩ : BufTy).Contents (Elt F) → (⟨S1024, .i32⟩ : BufTy).Contents (Elt F))
  :: StableHlo.ternary main_while0b_v50 main_while0b_v52 main_while0b_v35 main_while0b_v53 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_while0b_v48 main_while0b_v54 (broadcastInDim S1024x1 ![0] bcast_S1024_S1024x1_0 : (⟨S1024, .i32⟩ : BufTy).Contents (Elt F) → (⟨S1024x1, .i32⟩ : BufTy).Contents (Elt F))
  :: StableHlo.unary main_while0b_v53 main_while0b_v55 (broadcastInDim S1024x1 ![0] bcast_S1024_S1024x1_0 : (⟨S1024, .i32⟩ : BufTy).Contents (Elt F) → (⟨S1024x1, .i32⟩ : BufTy).Contents (Elt F))
  :: StableHlo.binary main_while0b_v54 main_while0b_v55 main_while0b_v56 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F))
  :: StableHlo.binary main_while0b_v34 main_while0b_v56 main_while0b_v57 ((fun x i => Host.gather gather_S1024x1024_S1024x2_S1024_n_01_n_n_01_1_11 x i) : (⟨S1024x1024, .f32⟩ : BufTy).Contents (Elt F) → (⟨S1024x2, .i32⟩ : BufTy).Contents (Elt F) → (⟨S1024, .f32⟩ : BufTy).Contents (Elt F))
  :: StableHlo.binary main_while0b_v43 main_while0b_v57 main_while0b_v58 (subf : (⟨S1024, .f32⟩ : BufTy).Contents (Elt F) → (⟨S1024, .f32⟩ : BufTy).Contents (Elt F) → (⟨S1024, .f32⟩ : BufTy).Contents (Elt F))
  :: StableHlo.nullary main_while0b_cst_20 (constant S_ .f32 0x00000000#32)
  :: StableHlo.binary main_while0b_v58 main_while0b_cst_20 main_while0b_v59 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F))
  :: StableHlo.nullary main_while0b_cst_21 (constant S_ .f32 0x44800000#32)
  :: StableHlo.binary main_while0b_v59 main_while0b_cst_21 main_while0b_v60 (Host.divf : (⟨S_, .f32⟩ : BufTy).Contents (Elt F) → (⟨S_, .f32⟩ : BufTy).Contents (Elt F) → (⟨S_, .f32⟩ : BufTy).Contents (Elt F))
  :: StableHlo.nullary main_while0b_c_22 (constantI S_ 32 0#32)
  :: StableHlo.binary main_while0b_v8 main_while0b_c_22 main_while0b_v61 (cmpi .eq : (⟨S_, .i32⟩ : BufTy).Contents (Elt F) → (⟨S_, .i32⟩ : BufTy).Contents (Elt F) → (⟨S_, .i1⟩ : BufTy).Contents (Elt F))
  :: StableHlo.nullary main_while0b_cst_23 (constant S_ .f32 0x3F800000#32)
  :: StableHlo.nullary main_while0b_cst_24 (constant S_ .f32 0x00000000#32)
  :: [] )
/-- 1 host operation of @_where_1 (main_while0b_call4), in order. -/
abbrev while0Ops0_6 : List (HloOp τ sig (Elt F)) :=
  [ StableHlo.TRef.ternary (.of main_while0b_v61 : StableHlo.TRef sig ⟨S_, .i1⟩) (.of main_while0b_cst_23 : StableHlo.TRef sig ⟨S_, .f32⟩) (.of main_while0b_cst_24 : StableHlo.TRef sig ⟨S_, .f32⟩) (.of main_while0b_v62 : StableHlo.TRef sig ⟨S_, .f32⟩) select ]
/-- 22 host operations of host loop 0's body region, in order. -/
abbrev while0Ops0_7 : List (HloOp τ sig (Elt F)) :=
  [ StableHlo.unary main_while0b_v62 main_while0b_v63 (id : (⟨S_, .f32⟩ : BufTy).Contents (Elt F) → (⟨S_, .f32⟩ : BufTy).Contents (Elt F)),
    StableHlo.binary main_while0b_v60 main_while0b_v63 main_while0b_v64 (mulf : (⟨S_, .f32⟩ : BufTy).Contents (Elt F) → (⟨S_, .f32⟩ : BufTy).Contents (Elt F) → (⟨S_, .f32⟩ : BufTy).Contents (Elt F)),
    StableHlo.unary main_while0b_v11 main_while0b_v65 ((extractStridedSlice S32768x256 ![0, 256] · slices_S32768x512_S32768x256_0_256) : (⟨S32768x512, .f32⟩ : BufTy).Contents (Elt F) → (⟨S32768x256, .f32⟩ : BufTy).Contents (Elt F)),
    StableHlo.unary main_while0b_v9 main_while0b_v66 ((extractStridedSlice S1x1024x256 ![1, 0, 0] · slices_S2x1024x256_S1x1024x256_1_0_0) : (⟨S2x1024x256, .f32⟩ : BufTy).Contents (Elt F) → (⟨S1x1024x256, .f32⟩ : BufTy).Contents (Elt F)),
    StableHlo.reshape main_while0b_v66 main_while0b_v67 (rfl : (.f32 : EltTy) = .f32) shapeCasts_S1x1024x256_S1024x256,
    StableHlo.binary main_while0b_v65 main_while0b_v65 main_while0b_v68 (mulf : (⟨S32768x256, .f32⟩ : BufTy).Contents (Elt F) → (⟨S32768x256, .f32⟩ : BufTy).Contents (Elt F) → (⟨S32768x256, .f32⟩ : BufTy).Contents (Elt F)),
    StableHlo.nullary main_while0b_cst_25 (constant S_ .f32 0x00000000#32),
    StableHlo.binary main_while0b_v68 main_while0b_cst_25 main_while0b_v69 ((fun x v => Host.reduceAdd x v reducesTo_S32768x256_S32768_d1 h_S_) : (⟨S32768x256, .f32⟩ : BufTy).Contents (Elt F) → (⟨S_, .f32⟩ : BufTy).Contents (Elt F) → (⟨S32768, .f32⟩ : BufTy).Contents (Elt F)),
    StableHlo.unary main_while0b_v69 main_while0b_v70 (broadcastInDim S32768x1 ![0] bcast_S32768_S32768x1_0 : (⟨S32768, .f32⟩ : BufTy).Contents (Elt F) → (⟨S32768x1, .f32⟩ : BufTy).Contents (Elt F)),
    StableHlo.binary main_while0b_v67 main_while0b_v67 main_while0b_v71 (mulf : (⟨S1024x256, .f32⟩ : BufTy).Contents (Elt F) → (⟨S1024x256, .f32⟩ : BufTy).Contents (Elt F) → (⟨S1024x256, .f32⟩ : BufTy).Contents (Elt F)),
    StableHlo.nullary main_while0b_cst_26 (constant S_ .f32 0x00000000#32),
    StableHlo.binary main_while0b_v71 main_while0b_cst_26 main_while0b_v72 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    StableHlo.unary main_while0b_v72 main_while0b_v73 (broadcastInDim S1x1024 ![1] bcast_S1024_S1x1024_1 : (⟨S1024, .f32⟩ : BufTy).Contents (Elt F) → (⟨S1x1024, .f32⟩ : BufTy).Contents (Elt F)),
    StableHlo.unary main_while0b_v70 main_while0b_v74 (broadcastInDim S32768x1024 ![0, 1] bcast_S32768x1_S32768x1024_0_1 : (⟨S32768x1, .f32⟩ : BufTy).Contents (Elt F) → (⟨S32768x1024, .f32⟩ : BufTy).Contents (Elt F)),
    StableHlo.unary main_while0b_v73 main_while0b_v75 (broadcastInDim S32768x1024 ![0, 1] bcast_S1x1024_S32768x1024_0_1 : (⟨S1x1024, .f32⟩ : BufTy).Contents (Elt F) → (⟨S32768x1024, .f32⟩ : BufTy).Contents (Elt F)),
    StableHlo.binary main_while0b_v74 main_while0b_v75 main_while0b_v76 (addf : (⟨S32768x1024, .f32⟩ : BufTy).Contents (Elt F) → (⟨S32768x1024, .f32⟩ : BufTy).Contents (Elt F) → (⟨S32768x1024, .f32⟩ : BufTy).Contents (Elt F)),
    StableHlo.unary main_while0b_v67 main_while0b_v77 ((transpose S256x1024 [1, 0] · transposes_S1024x256_S256x1024_1_0) : (⟨S1024x256, .f32⟩ : BufTy).Contents (Elt F) → (⟨S256x1024, .f32⟩ : BufTy).Contents (Elt F)),
    StableHlo.binary main_while0b_v65 main_while0b_v77 main_while0b_v78 ((fun l r => Host.dotGeneral dot_S32768x256_S256x1024_S32768x1024_1_0_0_1_n_n none l r) : (⟨S32768x256, .f32⟩ : BufTy).Contents (Elt F) → (⟨S256x1024, .f32⟩ : BufTy).Contents (Elt F) → (⟨S32768x1024, .f32⟩ : BufTy).Contents (Elt F)),
    StableHlo.nullary main_while0b_cst_27 (constant S_ .f32 0x40000000#32),
    StableHlo.unary main_while0b_cst_27 main_while0b_v79 (broadcastInDim S32768x1024 ![] bcast_S_S32768x1024 : (⟨S_, .f32⟩ : BufTy).Contents (Elt F) → (⟨S32768x1024, .f32⟩ : BufTy).Contents (Elt F)),
    StableHlo.binary main_while0b_v79 main_while0b_v78 main_while0b_v80 (mulf : (⟨S32768x1024, .f32⟩ : BufTy).Contents (Elt F) → (⟨S32768x1024, .f32⟩ : BufTy).Contents (Elt F) → (⟨S32768x1024, .f32⟩ : BufTy).Contents (Elt F)),
    StableHlo.binary main_while0b_v76 main_while0b_v80 main_while0b_v81 (subf : (⟨S32768x1024, .f32⟩ : BufTy).Contents (Elt F) → (⟨S32768x1024, .f32⟩ : BufTy).Contents (Elt F) → (⟨S32768x1024, .f32⟩ : BufTy).Contents (Elt F)) ]
/-- 5 host operations of @argmin (main_while0b_call5), in order. -/
abbrev while0Ops0_8 : List (HloOp τ sig (Elt F)) :=
  [ StableHlo.TRef.nullary (.of main_while0b_call5_v0 : StableHlo.TRef sig ⟨S32768x1024, .i32⟩) (iotaInDim S32768x1024 32 1),
    StableHlo.TRef.nullary (.of main_while0b_call5_cst : StableHlo.TRef sig ⟨S_, .f32⟩) (constant S_ .f32 0x7F800000#32),
    StableHlo.TRef.nullary (.of main_while0b_call5_c : StableHlo.TRef sig ⟨S_, .i32⟩) (constantI S_ 32 0#32),
    StableHlo.TRef.quaternary (.of main_while0b_v81 : StableHlo.TRef sig ⟨S32768x1024, .f32⟩) (.of main_while0b_call5_v0 : StableHlo.TRef sig ⟨S32768x1024, .i32⟩) (.of main_while0b_call5_cst : StableHlo.TRef sig ⟨S_, .f32⟩) (.of main_while0b_call5_c : StableHlo.TRef sig ⟨S_, .i32⟩) (.of main_while0b_call5_v1_0 : StableHlo.TRef sig ⟨S32768, .f32⟩) (fun x y u v j => (Host.argReduce reducer_argmin_f32_i32 x y u v reducesTo_S32768x1024_S32768_d1 h_S_ j).1),
    StableHlo.TRef.quaternary (.of main_while0b_v81 : StableHlo.TRef sig ⟨S32768x1024, .f32⟩) (.of main_while0b_call5_v0 : StableHlo.TRef sig ⟨S32768x1024, .i32⟩) (.of main_while0b_call5_cst : StableHlo.TRef sig ⟨S_, .f32⟩) (.of main_while0b_call5_c : StableHlo.TRef sig ⟨S_, .i32⟩) (.of main_while0b_v82 : StableHlo.TRef sig ⟨S32768, .i32⟩) (fun x y u v j => (Host.argReduce reducer_argmin_f32_i32 x y u v reducesTo_S32768x1024_S32768_d1 h_S_ j).2) ]
/-- 23 host operations of @_take (main_while0b_call6), in order. -/
abbrev while0Ops0_9 : List (HloOp τ sig (Elt F)) :=
  [ StableHlo.TRef.nullary (.of main_while0b_call6_c : StableHlo.TRef sig ⟨S_, .i32⟩) (constantI S_ 32 0#32),
    StableHlo.TRef.unary (.of main_while0b_call6_c : StableHlo.TRef sig ⟨S_, .i32⟩) (.of main_while0b_call6_v0 : StableHlo.TRef sig ⟨S32768, .i32⟩) (broadcastInDim S32768 ![] bcast_S_S32768),
    StableHlo.TRef.binary (.of main_while0b_v82 : StableHlo.TRef sig ⟨S32768, .i32⟩) (.of main_while0b_call6_v0 : StableHlo.TRef sig ⟨S32768, .i32⟩) (.of main_while0b_call6_v1 : StableHlo.TRef sig ⟨S32768, .i1⟩) (cmpi .slt),
    StableHlo.TRef.nullary (.of main_while0b_call6_c_0 : StableHlo.TRef sig ⟨S_, .i32⟩) (constantI S_ 32 1024#32),
    StableHlo.TRef.unary (.of main_while0b_call6_c_0 : StableHlo.TRef sig ⟨S_, .i32⟩) (.of main_while0b_call6_v2 : StableHlo.TRef sig ⟨S32768, .i32⟩) (broadcastInDim S32768 ![] bcast_S_S32768),
    StableHlo.TRef.binary (.of main_while0b_v82 : StableHlo.TRef sig ⟨S32768, .i32⟩) (.of main_while0b_call6_v2 : StableHlo.TRef sig ⟨S32768, .i32⟩) (.of main_while0b_call6_v3 : StableHlo.TRef sig ⟨S32768, .i32⟩) addi,
    StableHlo.TRef.ternary (.of main_while0b_call6_v1 : StableHlo.TRef sig ⟨S32768, .i1⟩) (.of main_while0b_call6_v3 : StableHlo.TRef sig ⟨S32768, .i32⟩) (.of main_while0b_v82 : StableHlo.TRef sig ⟨S32768, .i32⟩) (.of main_while0b_call6_v4 : StableHlo.TRef sig ⟨S32768, .i32⟩) select,
    StableHlo.TRef.unary (.of main_while0b_call6_v4 : StableHlo.TRef sig ⟨S32768, .i32⟩) (.of main_while0b_call6_v5 : StableHlo.TRef sig ⟨S32768x1, .i32⟩) (broadcastInDim S32768x1 ![0] bcast_S32768_S32768x1_0),
    StableHlo.TRef.nullary (.of main_while0b_call6_c_1 : StableHlo.TRef sig ⟨S1, .i32⟩) (constantI S1 32 1023#32),
    StableHlo.TRef.nullary (.of main_while0b_call6_c_2 : StableHlo.TRef sig ⟨S_, .i32⟩) (constantI S_ 32 0#32),
    StableHlo.TRef.unary (.of main_while0b_call6_c_2 : StableHlo.TRef sig ⟨S_, .i32⟩) (.of main_while0b_call6_v6 : StableHlo.TRef sig ⟨S32768x1, .i32⟩) (broadcastInDim S32768x1 ![] bcast_S_S32768x1),
    StableHlo.TRef.binary (.of main_while0b_call6_v5 : StableHlo.TRef sig ⟨S32768x1, .i32⟩) (.of main_while0b_call6_v6 : StableHlo.TRef sig ⟨S32768x1, .i32⟩) (.of main_while0b_call6_v7 : StableHlo.TRef sig ⟨S32768x1, .i1⟩) (cmpi .sge),
    StableHlo.TRef.unary (.of main_while0b_call6_c_1 : StableHlo.TRef sig ⟨S1, .i32⟩) (.of main_while0b_call6_v8 : StableHlo.TRef sig ⟨S1x1, .i32⟩) (broadcastInDim S1x1 ![1] bcast_S1_S1x1_1),
    StableHlo.TRef.unary (.of main_while0b_call6_v8 : StableHlo.TRef sig ⟨S1x1, .i32⟩) (.of main_while0b_call6_v9 : StableHlo.TRef sig ⟨S32768x1, .i32⟩) (broadcastInDim S32768x1 ![0, 1] bcast_S1x1_S32768x1_0_1),
    StableHlo.TRef.binary (.of main_while0b_call6_v5 : StableHlo.TRef sig ⟨S32768x1, .i32⟩) (.of main_while0b_call6_v9 : StableHlo.TRef sig ⟨S32768x1, .i32⟩) (.of main_while0b_call6_v10 : StableHlo.TRef sig ⟨S32768x1, .i1⟩) (cmpi .sle),
    StableHlo.TRef.binary (.of main_while0b_call6_v7 : StableHlo.TRef sig ⟨S32768x1, .i1⟩) (.of main_while0b_call6_v10 : StableHlo.TRef sig ⟨S32768x1, .i1⟩) (.of main_while0b_call6_v11 : StableHlo.TRef sig ⟨S32768x1, .i1⟩) andi,
    StableHlo.TRef.nullary (.of main_while0b_call6_c_3 : StableHlo.TRef sig ⟨S_, .i1⟩) (constantI S_ 1 1#1),
    StableHlo.TRef.binary (.of main_while0b_call6_v11 : StableHlo.TRef sig ⟨S32768x1, .i1⟩) (.of main_while0b_call6_c_3 : StableHlo.TRef sig ⟨S_, .i1⟩) (.of main_while0b_call6_v12 : StableHlo.TRef sig ⟨S32768, .i1⟩) (fun x v => Host.reduce IntOp.andi x v reducesTo_S32768x1_S32768_d1 h_S_),
    StableHlo.TRef.binary (.of main_while0b_v67 : StableHlo.TRef sig ⟨S1024x256, .f32⟩) (.of main_while0b_call6_v5 : StableHlo.TRef sig ⟨S32768x1, .i32⟩) (.of main_while0b_call6_v13 : StableHlo.TRef sig ⟨S32768x256, .f32⟩) (fun x i => Host.gather gather_S1024x256_S32768x1_S32768x256_1_0_n_n_0_1_1256 x i),
    StableHlo.TRef.unary (.of main_while0b_call6_v12 : StableHlo.TRef sig ⟨S32768, .i1⟩) (.of main_while0b_call6_v14 : StableHlo.TRef sig ⟨S32768x256, .i1⟩) (broadcastInDim S32768x256 ![0] bcast_S32768_S32768x256_0),
    StableHlo.TRef.nullary (.of main_while0b_call6_cst : StableHlo.TRef sig ⟨S_, .f32⟩) (constant S_ .f32 0x7FC00000#32),
    StableHlo.TRef.unary (.of main_while0b_call6_cst : StableHlo.TRef sig ⟨S_, .f32⟩) (.of main_while0b_call6_v15 : StableHlo.TRef sig ⟨S32768x256, .f32⟩) (broadcastInDim S32768x256 ![] bcast_S_S32768x256),
    StableHlo.TRef.ternary (.of main_while0b_call6_v14 : StableHlo.TRef sig ⟨S32768x256, .i1⟩) (.of main_while0b_call6_v13 : StableHlo.TRef sig ⟨S32768x256, .f32⟩) (.of main_while0b_call6_v15 : StableHlo.TRef sig ⟨S32768x256, .f32⟩) (.of main_while0b_v83 : StableHlo.TRef sig ⟨S32768x256, .f32⟩) select ]
/-- 43 host operations of host loop 0's body region, in order. -/
abbrev while0Ops0_10 : List (HloOp τ sig (Elt F)) :=
  ( StableHlo.unary main_while0b_v67 main_while0b_v84 ((transpose S256x1024 [1, 0] · transposes_S1024x256_S256x1024_1_0) : (⟨S1024x256, .f32⟩ : BufTy).Contents (Elt F) → (⟨S256x1024, .f32⟩ : BufTy).Contents (Elt F))
  :: StableHlo.binary main_while0b_v67 main_while0b_v84 main_while0b_v85 ((fun l r => Host.dotGeneral dot_S1024x256_S256x1024_S1024x1024_1_0_0_1_n_n none l r) : (⟨S1024x256, .f32⟩ : BufTy).Contents (Elt F) → (⟨S256x1024, .f32⟩ : BufTy).Contents (Elt F) → (⟨S1024x1024, .f32⟩ : BufTy).Contents (Elt F))
  :: StableHlo.nullary main_while0b_cst_28 (constant S_ .f32 0x40400000#32)
  :: StableHlo.unary main_while0b_cst_28 main_while0b_v86 (broadcastInDim S1024x1024 ![] bcast_S_S1024x1024 : (⟨S_, .f32⟩ : BufTy).Contents (Elt F) → (⟨S1024x1024, .f32⟩ : BufTy).Contents (Elt F))
  :: StableHlo.binary main_while0b_v85 main_while0b_v86 main_while0b_v87 (mulf : (⟨S1024x1024, .f32⟩ : BufTy).Contents (Elt F) → (⟨S1024x1024, .f32⟩ : BufTy).Contents (Elt F) → (⟨S1024x1024, .f32⟩ : BufTy).Contents (Elt F))
  :: StableHlo.nullary main_while0b_v88 (iotaInDim S1024 32 0)
  :: StableHlo.nullary main_while0b_cst_29 (constant S_ .f32 0xFF800000#32)
  :: StableHlo.binary main_while0b_v87 main_while0b_cst_29 main_while0b_v89 ((fun x v => Host.reduce FloatOps.maximumf x v reducesTo_S1024x1024_S1024_d1 h_S_) : (⟨S1024x1024, .f32⟩ : BufTy).Contents (Elt F) → (⟨S_, .f32⟩ : BufTy).Contents (Elt F) → (⟨S1024, .f32⟩ : BufTy).Contents (Elt F))
  :: StableHlo.unary main_while0b_v89 main_while0b_v90 (broadcastInDim S1024x1 ![0] bcast_S1024_S1024x1_0 : (⟨S1024, .f32⟩ : BufTy).Contents (Elt F) → (⟨S1024x1, .f32⟩ : BufTy).Contents (Elt F))
  :: StableHlo.unary main_while0b_v90 main_while0b_v91 (broadcastInDim S1024x1024 ![0, 1] bcast_S1024x1_S1024x1024_0_1 : (⟨S1024x1, .f32⟩ : BufTy).Contents (Elt F) → (⟨S1024x1024, .f32⟩ : BufTy).Contents (Elt F))
  :: StableHlo.binary main_while0b_v87 main_while0b_v91 main_while0b_v92 (subf : (⟨S1024x1024, .f32⟩ : BufTy).Contents (Elt F) → (⟨S1024x1024, .f32⟩ : BufTy).Contents (Elt F) → (⟨S1024x1024, .f32⟩ : BufTy).Contents (Elt F))
  :: StableHlo.unary main_while0b_v92 main_while0b_v93 (Host.exp : (⟨S1024x1024, .f32⟩ : BufTy).Contents (Elt F) → (⟨S1024x1024, .f32⟩ : BufTy).Contents (Elt F))
  :: StableHlo.nullary main_while0b_cst_30 (constant S_ .f32 0x00000000#32)
  :: StableHlo.binary main_while0b_v93 main_while0b_cst_30 main_while0b_v94 ((fun x v => Host.reduceAdd x v reducesTo_S1024x1024_S1024_d1 h_S_) : (⟨S1024x1024, .f32⟩ : BufTy).Contents (Elt F) → (⟨S_, .f32⟩ : BufTy).Contents (Elt F) → (⟨S1024, .f32⟩ : BufTy).Contents (Elt F))
  :: StableHlo.unary main_while0b_v94 main_while0b_v95 (Host.log : (⟨S1024, .f32⟩ : BufTy).Contents (Elt F) → (⟨S1024, .f32⟩ : BufTy).Contents (Elt F))
  :: StableHlo.binary main_while0b_v95 main_while0b_v89 main_while0b_v96 (addf : (⟨S1024, .f32⟩ : BufTy).Contents (Elt F) → (⟨S1024, .f32⟩ : BufTy).Contents (Elt F) → (⟨S1024, .f32⟩ : BufTy).Contents (Elt F))
  :: StableHlo.nullary main_while0b_c_31 (constantI S_ 32 0#32)
  :: StableHlo.unary main_while0b_c_31 main_while0b_v97 (broadcastInDim S1024 ![] bcast_S_S1024 : (⟨S_, .i32⟩ : BufTy).Contents (Elt F) → (⟨S1024, .i32⟩ : BufTy).Contents (Elt F))
  :: StableHlo.binary main_while0b_v88 main_while0b_v97 main_while0b_v98 (cmpi .slt : (⟨S1024, .i32⟩ : BufTy).Contents (Elt F) → (⟨S1024, .i32⟩ : BufTy).Contents (Elt F) → (⟨S1024, .i1⟩ : BufTy).Contents (Elt F))
  :: StableHlo.nullary main_while0b_c_32 (constantI S_ 32 1024#32)
  :: StableHlo.unary main_while0b_c_32 main_while0b_v99 (broadcastInDim S1024 ![] bcast_S_S1024 : (⟨S_, .i32⟩ : BufTy).Contents (Elt F) → (⟨S1024, .i32⟩ : BufTy).Contents (Elt F))
  :: StableHlo.binary main_while0b_v88 main_while0b_v99 main_while0b_v100 (addi : (⟨S1024, .i32⟩ : BufTy).Contents (Elt F) → (⟨S1024, .i32⟩ : BufTy).Contents (Elt F) → (⟨S1024, .i32⟩ : BufTy).Contents (Elt F))
  :: StableHlo.ternary main_while0b_v98 main_while0b_v100 main_while0b_v88 main_while0b_v101 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.nullary main_while0b_c_33 (constantI S_ 32 0#32)
  :: StableHlo.unary main_while0b_c_33 main_while0b_v102 (broadcastInDim S1024 ![] bcast_S_S1024 : (⟨S_, .i32⟩ : BufTy).Contents (Elt F) → (⟨S1024, .i32⟩ : BufTy).Contents (Elt F))
  :: StableHlo.binary main_while0b_v88 main_while0b_v102 main_while0b_v103 (cmpi .slt : (⟨S1024, .i32⟩ : BufTy).Contents (Elt F) → (⟨S1024, .i32⟩ : BufTy).Contents (Elt F) → (⟨S1024, .i1⟩ : BufTy).Contents (Elt F))
  :: StableHlo.nullary main_while0b_c_34 (constantI S_ 32 1024#32)
  :: StableHlo.unary main_while0b_c_34 main_while0b_v104 (broadcastInDim S1024 ![] bcast_S_S1024 : (⟨S_, .i32⟩ : BufTy).Contents (Elt F) → (⟨S1024, .i32⟩ : BufTy).Contents (Elt F))
  :: StableHlo.binary main_while0b_v88 main_while0b_v104 main_while0b_v105 (addi : (⟨S1024, .i32⟩ : BufTy).Contents (Elt F) → (⟨S1024, .i32⟩ : BufTy).Contents (Elt F) → (⟨S1024, .i32⟩ : BufTy).Contents (Elt F))
  :: StableHlo.ternary main_while0b_v103 main_while0b_v105 main_while0b_v88 main_while0b_v106 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_while0b_v101 main_while0b_v107 (broadcastInDim S1024x1 ![0] bcast_S1024_S1024x1_0 : (⟨S1024, .i32⟩ : BufTy).Contents (Elt F) → (⟨S1024x1, .i32⟩ : BufTy).Contents (Elt F))
  :: StableHlo.unary main_while0b_v106 main_while0b_v108 (broadcastInDim S1024x1 ![0] bcast_S1024_S1024x1_0 : (⟨S1024, .i32⟩ : BufTy).Contents (Elt F) → (⟨S1024x1, .i32⟩ : BufTy).Contents (Elt F))
  :: StableHlo.binary main_while0b_v107 main_while0b_v108 main_while0b_v109 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F))
  :: StableHlo.binary main_while0b_v87 main_while0b_v109 main_while0b_v110 ((fun x i => Host.gather gather_S1024x1024_S1024x2_S1024_n_01_n_n_01_1_11 x i) : (⟨S1024x1024, .f32⟩ : BufTy).Contents (Elt F) → (⟨S1024x2, .i32⟩ : BufTy).Contents (Elt F) → (⟨S1024, .f32⟩ : BufTy).Contents (Elt F))
  :: StableHlo.binary main_while0b_v96 main_while0b_v110 main_while0b_v111 (subf : (⟨S1024, .f32⟩ : BufTy).Contents (Elt F) → (⟨S1024, .f32⟩ : BufTy).Contents (Elt F) → (⟨S1024, .f32⟩ : BufTy).Contents (Elt F))
  :: StableHlo.nullary main_while0b_cst_35 (constant S_ .f32 0x00000000#32)
  :: StableHlo.binary main_while0b_v111 main_while0b_cst_35 main_while0b_v112 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F))
  :: StableHlo.nullary main_while0b_cst_36 (constant S_ .f32 0x44800000#32)
  :: StableHlo.binary main_while0b_v112 main_while0b_cst_36 main_while0b_v113 (Host.divf : (⟨S_, .f32⟩ : BufTy).Contents (Elt F) → (⟨S_, .f32⟩ : BufTy).Contents (Elt F) → (⟨S_, .f32⟩ : BufTy).Contents (Elt F))
  :: StableHlo.nullary main_while0b_c_37 (constantI S_ 32 0#32)
  :: StableHlo.binary main_while0b_v8 main_while0b_c_37 main_while0b_v114 (cmpi .eq : (⟨S_, .i32⟩ : BufTy).Contents (Elt F) → (⟨S_, .i32⟩ : BufTy).Contents (Elt F) → (⟨S_, .i1⟩ : BufTy).Contents (Elt F))
  :: StableHlo.nullary main_while0b_cst_38 (constant S_ .f32 0x3F800000#32)
  :: StableHlo.nullary main_while0b_cst_39 (constant S_ .f32 0x00000000#32)
  :: [] )
/-- 1 host operation of @_where_1 (main_while0b_call7), in order. -/
abbrev while0Ops0_11 : List (HloOp τ sig (Elt F)) :=
  [ StableHlo.TRef.ternary (.of main_while0b_v114 : StableHlo.TRef sig ⟨S_, .i1⟩) (.of main_while0b_cst_38 : StableHlo.TRef sig ⟨S_, .f32⟩) (.of main_while0b_cst_39 : StableHlo.TRef sig ⟨S_, .f32⟩) (.of main_while0b_v115 : StableHlo.TRef sig ⟨S_, .f32⟩) select ]
/-- 39 host operations of host loop 0's body region, in order. -/
abbrev while0Ops0_12 : List (HloOp τ sig (Elt F)) :=
  ( StableHlo.unary main_while0b_v115 main_while0b_v116 (id : (⟨S_, .f32⟩ : BufTy).Contents (Elt F) → (⟨S_, .f32⟩ : BufTy).Contents (Elt F))
  :: StableHlo.binary main_while0b_v113 main_while0b_v116 main_while0b_v117 (mulf : (⟨S_, .f32⟩ : BufTy).Contents (Elt F) → (⟨S_, .f32⟩ : BufTy).Contents (Elt F) → (⟨S_, .f32⟩ : BufTy).Contents (Elt F))
  :: StableHlo.binary main_while0b_v30 main_while0b_v83 main_while0b_v118 ((fun a b => concatenate S32768x512 1 [⟨S32768x256, a⟩, ⟨S32768x256, b⟩] concatenates_S32768x256_S32768x256_S32768x512_d1) : (⟨S32768x256, .f32⟩ : BufTy).Contents (Elt F) → (⟨S32768x256, .f32⟩ : BufTy).Contents (Elt F) → (⟨S32768x512, .f32⟩ : BufTy).Contents (Elt F))
  :: StableHlo.reshape main_while0b_v118 main_while0b_v119 (rfl : (.f32 : EltTy) = .f32) shapeCasts_S32768x512_S16x2048x512
  :: StableHlo.unary main_while0b_v119 main_while0b_v120 ((transpose S16x512x2048 [0, 2, 1] · transposes_S16x2048x512_S16x512x2048_0_2_1) : (⟨S16x2048x512, .f32⟩ : BufTy).Contents (Elt F) → (⟨S16x512x2048, .f32⟩ : BufTy).Contents (Elt F))
  :: StableHlo.unary main_while0b_v64 main_while0b_v121 (broadcastInDim S1 ![] bcast_S_S1 : (⟨S_, .f32⟩ : BufTy).Contents (Elt F) → (⟨S1, .f32⟩ : BufTy).Contents (Elt F))
  :: StableHlo.unary main_while0b_v117 main_while0b_v122 (broadcastInDim S1 ![] bcast_S_S1 : (⟨S_, .f32⟩ : BufTy).Contents (Elt F) → (⟨S1, .f32⟩ : BufTy).Contents (Elt F))
  :: StableHlo.binary main_while0b_v121 main_while0b_v122 main_while0b_v123 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F))
  :: StableHlo.nullary main_while0b_cst_40 (constant S_ .f32 0x00000000#32)
  :: StableHlo.binary main_while0b_v123 main_while0b_cst_40 main_while0b_v124 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F))
  :: StableHlo.nullary main_while0b_cst_41 (constant S_ .f32 0x40000000#32)
  :: StableHlo.binary main_while0b_v124 main_while0b_cst_41 main_while0b_v125 (Host.divf : (⟨S_, .f32⟩ : BufTy).Contents (Elt F) → (⟨S_, .f32⟩ : BufTy).Contents (Elt F) → (⟨S_, .f32⟩ : BufTy).Contents (Elt F))
  :: StableHlo.nullary main_while0b_cst_42 (constant S_ .f32 0x3DCCCCCD#32)
  :: StableHlo.binary main_while0b_cst_42 main_while0b_v125 main_while0b_v126 (mulf : (⟨S_, .f32⟩ : BufTy).Contents (Elt F) → (⟨S_, .f32⟩ : BufTy).Contents (Elt F) → (⟨S_, .f32⟩ : BufTy).Contents (Elt F))
  :: StableHlo.binary main_while0b_v120 main_v4_4 main_while0b_v127 (subf : (⟨S16x512x2048, .f32⟩ : BufTy).Contents (Elt F) → (⟨S16x512x2048, .f32⟩ : BufTy).Contents (Elt F) → (⟨S16x512x2048, .f32⟩ : BufTy).Contents (Elt F))
  :: StableHlo.binary main_while0b_v127 main_while0b_v127 main_while0b_v128 (mulf : (⟨S16x512x2048, .f32⟩ : BufTy).Contents (Elt F) → (⟨S16x512x2048, .f32⟩ : BufTy).Contents (Elt F) → (⟨S16x512x2048, .f32⟩ : BufTy).Contents (Elt F))
  :: StableHlo.nullary main_while0b_cst_43 (constant S_ .f32 0x00000000#32)
  :: StableHlo.binary main_while0b_v128 main_while0b_cst_43 main_while0b_v129 ((fun x v => Host.reduceAdd x v reducesTo_S16x512x2048_S_d0_1_2 h_S_) : (⟨S16x512x2048, .f32⟩ : BufTy).Contents (Elt F) → (⟨S_, .f32⟩ : BufTy).Contents (Elt F) → (⟨S_, .f32⟩ : BufTy).Contents (Elt F))
  :: StableHlo.nullary main_while0b_cst_44 (constant S_ .f32 0x4B800000#32)
  :: StableHlo.binary main_while0b_v129 main_while0b_cst_44 main_while0b_v130 (Host.divf : (⟨S_, .f32⟩ : BufTy).Contents (Elt F) → (⟨S_, .f32⟩ : BufTy).Contents (Elt F) → (⟨S_, .f32⟩ : BufTy).Contents (Elt F))
  :: StableHlo.nullary main_while0b_cst_45 (constant S_ .f32 0x3F800000#32)
  :: StableHlo.binary main_while0b_cst_45 main_while0b_v130 main_while0b_v131 (mulf : (⟨S_, .f32⟩ : BufTy).Contents (Elt F) → (⟨S_, .f32⟩ : BufTy).Contents (Elt F) → (⟨S_, .f32⟩ : BufTy).Contents (Elt F))
  :: StableHlo.binary main_while0b_v126 main_while0b_v131 main_while0b_v132 (addf : (⟨S_, .f32⟩ : BufTy).Contents (Elt F) → (⟨S_, .f32⟩ : BufTy).Contents (Elt F) → (⟨S_, .f32⟩ : BufTy).Contents (Elt F))
  :: StableHlo.binary main_while0b_v120 main_v4_4 main_while0b_v133 (subf : (⟨S16x512x2048, .f32⟩ : BufTy).Contents (Elt F) → (⟨S16x512x2048, .f32⟩ : BufTy).Contents (Elt F) → (⟨S16x512x2048, .f32⟩ : BufTy).Contents (Elt F))
  :: StableHlo.binary main_while0b_v133 main_while0b_v133 main_while0b_v134 (mulf : (⟨S16x512x2048, .f32⟩ : BufTy).Contents (Elt F) → (⟨S16x512x2048, .f32⟩ : BufTy).Contents (Elt F) → (⟨S16x512x2048, .f32⟩ : BufTy).Contents (Elt F))
  :: StableHlo.nullary main_while0b_cst_46 (constant S_ .f32 0x00000000#32)
  :: StableHlo.binary main_while0b_v134 main_while0b_cst_46 main_while0b_v135 ((fun x v => Host.reduceAdd x v reducesTo_S16x512x2048_S_d0_1_2 h_S_) : (⟨S16x512x2048, .f32⟩ : BufTy).Contents (Elt F) → (⟨S_, .f32⟩ : BufTy).Contents (Elt F) → (⟨S_, .f32⟩ : BufTy).Contents (Elt F))
  :: StableHlo.nullary main_while0b_cst_47 (constant S_ .f32 0x4B800000#32)
  :: StableHlo.binary main_while0b_v135 main_while0b_cst_47 main_while0b_v136 (Host.divf : (⟨S_, .f32⟩ : BufTy).Contents (Elt F) → (⟨S_, .f32⟩ : BufTy).Contents (Elt F) → (⟨S_, .f32⟩ : BufTy).Contents (Elt F))
  :: StableHlo.nullary main_while0b_cst_48 (constant S_ .f32 0x3E800000#32)
  :: StableHlo.binary main_while0b_cst_48 main_while0b_v136 main_while0b_v137 (mulf : (⟨S_, .f32⟩ : BufTy).Contents (Elt F) → (⟨S_, .f32⟩ : BufTy).Contents (Elt F) → (⟨S_, .f32⟩ : BufTy).Contents (Elt F))
  :: StableHlo.binary main_while0b_v132 main_while0b_v137 main_while0b_v138 (addf : (⟨S_, .f32⟩ : BufTy).Contents (Elt F) → (⟨S_, .f32⟩ : BufTy).Contents (Elt F) → (⟨S_, .f32⟩ : BufTy).Contents (Elt F))
  :: StableHlo.binary main_while0b_v120 main_v4_4 main_while0b_v139 (subf : (⟨S16x512x2048, .f32⟩ : BufTy).Contents (Elt F) → (⟨S16x512x2048, .f32⟩ : BufTy).Contents (Elt F) → (⟨S16x512x2048, .f32⟩ : BufTy).Contents (Elt F))
  :: StableHlo.binary main_v4_4 main_while0b_v139 main_while0b_v140 (addf : (⟨S16x512x2048, .f32⟩ : BufTy).Contents (Elt F) → (⟨S16x512x2048, .f32⟩ : BufTy).Contents (Elt F) → (⟨S16x512x2048, .f32⟩ : BufTy).Contents (Elt F))
  :: StableHlo.binary main_v4_3 main_while0b_v140 main_while0b_v141 (addf : (⟨S16x512x2048, .f32⟩ : BufTy).Contents (Elt F) → (⟨S16x512x2048, .f32⟩ : BufTy).Contents (Elt F) → (⟨S16x512x2048, .f32⟩ : BufTy).Contents (Elt F))
  :: StableHlo.binary main_v4_4 main_while0b_v140 main_while0b_v142 (subf : (⟨S16x512x2048, .f32⟩ : BufTy).Contents (Elt F) → (⟨S16x512x2048, .f32⟩ : BufTy).Contents (Elt F) → (⟨S16x512x2048, .f32⟩ : BufTy).Contents (Elt F))
  :: StableHlo.unary main_while0b_v29 main_while0b_v143 (broadcastInDim S1x32768 ![1] bcast_S32768_S1x32768_1 : (⟨S32768, .i32⟩ : BufTy).Contents (Elt F) → (⟨S1x32768, .i32⟩ : BufTy).Contents (Elt F))
  :: StableHlo.unary main_while0b_v82 main_while0b_v144 (broadcastInDim S1x32768 ![1] bcast_S32768_S1x32768_1 : (⟨S32768, .i32⟩ : BufTy).Contents (Elt F) → (⟨S1x32768, .i32⟩ : BufTy).Contents (Elt F))
  :: StableHlo.binary main_while0b_v143 main_while0b_v144 main_while0b_v145 ((fun a b => concatenate S2x32768 0 [⟨S1x32768, a⟩, ⟨S1x32768, b⟩] concatenates_S1x32768_S1x32768_S2x32768_d0) : (⟨S1x32768, .i32⟩ : BufTy).Contents (Elt F) → (⟨S1x32768, .i32⟩ : BufTy).Contents (Elt F) → (⟨S2x32768, .i32⟩ : BufTy).Contents (Elt F))
  :: [] )
/-- 2 host operations of @dynamic_update_index_in_dim (main_while0b_call8), in order. -/
abbrev while0Ops0_13 : List (HloOp τ sig (Elt F)) :=
  [ StableHlo.TRef.unary (.of main_while0b_v138 : StableHlo.TRef sig ⟨S_, .f32⟩) (.of main_while0b_call8_v0 : StableHlo.TRef sig ⟨S1, .f32⟩) (broadcastInDim S1 ![] bcast_S_S1),
    StableHlo.TRef.binaryIndexed (.of main_v4_5 : StableHlo.TRef sig ⟨S8, .f32⟩) (.of main_while0b_call8_v0 : StableHlo.TRef sig ⟨S1, .f32⟩) ![(.of main_v4_2 : StableHlo.TRef sig ⟨S_, .i32⟩)] (.of main_while0b_v146 : StableHlo.TRef sig ⟨S8, .f32⟩) (fun x u i => Host.dynamicUpdateSlice x u (fun k => (i k (Shape.Idx.first h_S_)).toInt) updateFits_S8_S1) ]
/-- 4 host operations of @dynamic_update_index_in_dim_2 (main_while0b_call9), in order. -/
abbrev while0Ops0_14 : List (HloOp τ sig (Elt F)) :=
  [ StableHlo.TRef.unary (.of main_while0b_v145 : StableHlo.TRef sig ⟨S2x32768, .i32⟩) (.of main_while0b_call9_v0 : StableHlo.TRef sig ⟨S1x2x32768, .i32⟩) (broadcastInDim S1x2x32768 ![1, 2] bcast_S2x32768_S1x2x32768_1_2),
    StableHlo.TRef.nullary (.of main_while0b_call9_c : StableHlo.TRef sig ⟨S_, .i32⟩) (constantI S_ 32 0#32),
    StableHlo.TRef.nullary (.of main_while0b_call9_c_0 : StableHlo.TRef sig ⟨S_, .i32⟩) (constantI S_ 32 0#32),
    StableHlo.TRef.binaryIndexed (.of main_v4_6 : StableHlo.TRef sig ⟨S8x2x32768, .i32⟩) (.of main_while0b_call9_v0 : StableHlo.TRef sig ⟨S1x2x32768, .i32⟩) ![(.of main_v4_2 : StableHlo.TRef sig ⟨S_, .i32⟩), (.of main_while0b_call9_c : StableHlo.TRef sig ⟨S_, .i32⟩), (.of main_while0b_call9_c_0 : StableHlo.TRef sig ⟨S_, .i32⟩)] (.of main_while0b_v147 : StableHlo.TRef sig ⟨S8x2x32768, .i32⟩) (fun x u i => Host.dynamicUpdateSlice x u (fun k => (i k (Shape.Idx.first h_S_)).toInt) updateFits_S8x2x32768_S1x2x32768) ]
/-- 7 host operations of host loop 0's body region, in order. -/
abbrev while0Ops0_15 : List (HloOp τ sig (Elt F)) :=
  [ StableHlo.nullary main_while0b_c_49 (constantI S_ 32 1#32),
    StableHlo.binary main_v4_2 main_while0b_c_49 main_while0b_v148 (addi : (⟨S_, .i32⟩ : BufTy).Contents (Elt F) → (⟨S_, .i32⟩ : BufTy).Contents (Elt F) → (⟨S_, .i32⟩ : BufTy).Contents (Elt F)),
    StableHlo.unary main_while0b_v148 main_v4_2 id,
    StableHlo.unary main_while0b_v141 main_v4_3 id,
    StableHlo.unary main_while0b_v142 main_v4_4 id,
    StableHlo.unary main_while0b_v146 main_v4_5 id,
    StableHlo.unary main_while0b_v147 main_v4_6 id ]
/-- The loop's body is its stretches in order, each called function a stretch of its own. -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5,
    StableHlo.seq while0Ops0_6,
    StableHlo.seq while0Ops0_7,
    StableHlo.seq while0Ops0_8,
    StableHlo.seq while0Ops0_9,
    StableHlo.seq while0Ops0_10,
    StableHlo.seq while0Ops0_11,
    StableHlo.seq while0Ops0_12,
    StableHlo.seq while0Ops0_13,
    StableHlo.seq while0Ops0_14,
    StableHlo.seq while0Ops0_15 ] : Prog (TpuEff nD τ sig (Elt F) (HostLoop.Sig (Pipeline.Sig Λ₀ (Fin 0) fun p => (pcfgs (F := F) p).Adm) 1) .tc) PUnit) := by
  rewrite [Pipeline.chain_cons, Pipeline.chain_cons, StableHlo.chain_seq_cons, Pipeline.chain_cons, Pipeline.chain_cons, StableHlo.chain_seq_cons, Pipeline.chain_cons, StableHlo.chain_seq_cons, Pipeline.chain_cons, Pipeline.chain_cons, StableHlo.chain_seq_cons, Pipeline.chain_cons, StableHlo.chain_seq_cons, Pipeline.chain_cons, Pipeline.chain_cons, StableHlo.chain_seq_cons]
  chain_rfl

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## What each stretch writes -/

/-- The reference each operation of `hostOps0` writes, in order. -/
abbrev hostOps0_W : List (Ref sig .tc) := [main_cst, main_v0, main_v1, main_cst_0, main_v2, main_c, main_v3, main_c_1, main_v4_0, main_v4_1, main_v4_2, main_v4_3, main_v4_4, main_v4_5, main_v4_6]
/-- It writes no other. -/
theorem hostOps0_writes : (hostOps0 : List (HloOp τ sig (Elt F))).Forall fun op => op.writes ⊆ (hostOps0_W.map (Proc.devRef (τ := τ) .tc)).toFinset :=
  StableHlo.forall_writes_sub_of_map rfl
/-- The reference each operation of `while0Ops0` writes, in order. -/
abbrev while0Ops0_W : List (Ref sig .tc) := [main_while0b_call0_v0, main_while0b_v8]
/-- It writes no other. -/
theorem while0Ops0_writes : (while0Ops0 : List (HloOp τ sig (Elt F))).Forall fun op => op.writes ⊆ (while0Ops0_W.map (Proc.devRef (τ := τ) .tc)).toFinset :=
  StableHlo.forall_writes_sub_of_map rfl
/-- The reference each operation of `while0Ops0_1` writes, in order. -/
abbrev while0Ops0_1_W : List (Ref sig .tc) := [main_while0b_call1_c, main_while0b_call1_c_0, main_while0b_call1_c_1, main_while0b_call1_v0, main_while0b_v9]
/-- It writes no other. -/
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- The reference each operation of `while0Ops0_2` writes, in order. -/
abbrev while0Ops0_2_W : List (Ref sig .tc) := [main_while0b_v10, main_while0b_v11, main_while0b_v12, main_while0b_v13, main_while0b_v14, main_while0b_v15, main_while0b_cst_10, main_while0b_v16, main_while0b_v17, main_while0b_v18, main_while0b_cst_11, main_while0b_v19, main_while0b_v20, main_while0b_v21, main_while0b_v22, main_while0b_v23, main_while0b_v24, main_while0b_v25, main_while0b_cst_12, main_while0b_v26, main_while0b_v27, main_while0b_v28]
/-- It writes no other. -/
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- The reference each operation of `while0Ops0_3` writes, in order. -/
abbrev while0Ops0_3_W : List (Ref sig .tc) := [main_while0b_call2_v0, main_while0b_call2_cst, main_while0b_call2_c, main_while0b_call2_v1_0, main_while0b_v29]
/-- It writes no other. -/
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- The reference each operation of `while0Ops0_4` writes, in order. -/
abbrev while0Ops0_4_W : List (Ref sig .tc) := [main_while0b_call3_c, main_while0b_call3_v0, main_while0b_call3_v1, main_while0b_call3_c_0, main_while0b_call3_v2, main_while0b_call3_v3, main_while0b_call3_v4, main_while0b_call3_v5, main_while0b_call3_c_1, main_while0b_call3_c_2, main_while0b_call3_v6, main_while0b_call3_v7, main_while0b_call3_v8, main_while0b_call3_v9, main_while0b_call3_v10, main_while0b_call3_v11, main_while0b_call3_c_3, main_while0b_call3_v12, main_while0b_call3_v13, main_while0b_call3_v14, main_while0b_call3_cst, main_while0b_call3_v15, main_while0b_v30]
/-- It writes no other. -/
theorem while0Ops0_4_writes : (while0Ops0_4 : List (HloOp τ sig (Elt F))).Forall fun op => op.writes ⊆ (while0Ops0_4_W.map (Proc.devRef (τ := τ) .tc)).toFinset :=
  StableHlo.forall_writes_sub_of_map rfl
/-- The reference each operation of `while0Ops0_5` writes, in order. -/
abbrev while0Ops0_5_W : List (Ref sig .tc) := [main_while0b_v31, main_while0b_v32, main_while0b_cst_13, main_while0b_v33, main_while0b_v34, main_while0b_v35, main_while0b_cst_14, main_while0b_v36, main_while0b_v37, main_while0b_v38, main_while0b_v39, main_while0b_v40, main_while0b_cst_15, main_while0b_v41, main_while0b_v42, main_while0b_v43, main_while0b_c_16, main_while0b_v44, main_while0b_v45, main_while0b_c_17, main_while0b_v46, main_while0b_v47, main_while0b_v48, main_while0b_c_18, main_while0b_v49, main_while0b_v50, main_while0b_c_19, main_while0b_v51, main_while0b_v52, main_while0b_v53, main_while0b_v54, main_while0b_v55, main_while0b_v56, main_while0b_v57, main_while0b_v58, main_while0b_cst_20, main_while0b_v59, main_while0b_cst_21, main_while0b_v60, main_while0b_c_22, main_while0b_v61, main_while0b_cst_23, main_while0b_cst_24]
/-- It writes no other. -/
theorem while0Ops0_5_writes : (while0Ops0_5 : List (HloOp τ sig (Elt F))).Forall fun op => op.writes ⊆ (while0Ops0_5_W.map (Proc.devRef (τ := τ) .tc)).toFinset :=
  StableHlo.forall_writes_sub_of_map rfl
/-- The reference each operation of `while0Ops0_6` writes, in order. -/
abbrev while0Ops0_6_W : List (Ref sig .tc) := [main_while0b_v62]
/-- It writes no other. -/
theorem while0Ops0_6_writes : (while0Ops0_6 : List (HloOp τ sig (Elt F))).Forall fun op => op.writes ⊆ (while0Ops0_6_W.map (Proc.devRef (τ := τ) .tc)).toFinset :=
  StableHlo.forall_writes_sub_of_map rfl
/-- The reference each operation of `while0Ops0_7` writes, in order. -/
abbrev while0Ops0_7_W : List (Ref sig .tc) := [main_while0b_v63, main_while0b_v64, main_while0b_v65, main_while0b_v66, main_while0b_v67, main_while0b_v68, main_while0b_cst_25, main_while0b_v69, main_while0b_v70, main_while0b_v71, main_while0b_cst_26, main_while0b_v72, main_while0b_v73, main_while0b_v74, main_while0b_v75, main_while0b_v76, main_while0b_v77, main_while0b_v78, main_while0b_cst_27, main_while0b_v79, main_while0b_v80, main_while0b_v81]
/-- It writes no other. -/
theorem while0Ops0_7_writes : (while0Ops0_7 : List (HloOp τ sig (Elt F))).Forall fun op => op.writes ⊆ (while0Ops0_7_W.map (Proc.devRef (τ := τ) .tc)).toFinset :=
  StableHlo.forall_writes_sub_of_map rfl
/-- The reference each operation of `while0Ops0_8` writes, in order. -/
abbrev while0Ops0_8_W : List (Ref sig .tc) := [main_while0b_call5_v0, main_while0b_call5_cst, main_while0b_call5_c, main_while0b_call5_v1_0, main_while0b_v82]
/-- It writes no other. -/
theorem while0Ops0_8_writes : (while0Ops0_8 : List (HloOp τ sig (Elt F))).Forall fun op => op.writes ⊆ (while0Ops0_8_W.map (Proc.devRef (τ := τ) .tc)).toFinset :=
  StableHlo.forall_writes_sub_of_map rfl
/-- The reference each operation of `while0Ops0_9` writes, in order. -/
abbrev while0Ops0_9_W : List (Ref sig .tc) := [main_while0b_call6_c, main_while0b_call6_v0, main_while0b_call6_v1, main_while0b_call6_c_0, main_while0b_call6_v2, main_while0b_call6_v3, main_while0b_call6_v4, main_while0b_call6_v5, main_while0b_call6_c_1, main_while0b_call6_c_2, main_while0b_call6_v6, main_while0b_call6_v7, main_while0b_call6_v8, main_while0b_call6_v9, main_while0b_call6_v10, main_while0b_call6_v11, main_while0b_call6_c_3, main_while0b_call6_v12, main_while0b_call6_v13, main_while0b_call6_v14, main_while0b_call6_cst, main_while0b_call6_v15, main_while0b_v83]
/-- It writes no other. -/
theorem while0Ops0_9_writes : (while0Ops0_9 : List (HloOp τ sig (Elt F))).Forall fun op => op.writes ⊆ (while0Ops0_9_W.map (Proc.devRef (τ := τ) .tc)).toFinset :=
  StableHlo.forall_writes_sub_of_map rfl
/-- The reference each operation of `while0Ops0_10` writes, in order. -/
abbrev while0Ops0_10_W : List (Ref sig .tc) := [main_while0b_v84, main_while0b_v85, main_while0b_cst_28, main_while0b_v86, main_while0b_v87, main_while0b_v88, main_while0b_cst_29, main_while0b_v89, main_while0b_v90, main_while0b_v91, main_while0b_v92, main_while0b_v93, main_while0b_cst_30, main_while0b_v94, main_while0b_v95, main_while0b_v96, main_while0b_c_31, main_while0b_v97, main_while0b_v98, main_while0b_c_32, main_while0b_v99, main_while0b_v100, main_while0b_v101, main_while0b_c_33, main_while0b_v102, main_while0b_v103, main_while0b_c_34, main_while0b_v104, main_while0b_v105, main_while0b_v106, main_while0b_v107, main_while0b_v108, main_while0b_v109, main_while0b_v110, main_while0b_v111, main_while0b_cst_35, main_while0b_v112, main_while0b_cst_36, main_while0b_v113, main_while0b_c_37, main_while0b_v114, main_while0b_cst_38, main_while0b_cst_39]
/-- It writes no other. -/
theorem while0Ops0_10_writes : (while0Ops0_10 : List (HloOp τ sig (Elt F))).Forall fun op => op.writes ⊆ (while0Ops0_10_W.map (Proc.devRef (τ := τ) .tc)).toFinset :=
  StableHlo.forall_writes_sub_of_map rfl
/-- The reference each operation of `while0Ops0_11` writes, in order. -/
abbrev while0Ops0_11_W : List (Ref sig .tc) := [main_while0b_v115]
/-- It writes no other. -/
theorem while0Ops0_11_writes : (while0Ops0_11 : List (HloOp τ sig (Elt F))).Forall fun op => op.writes ⊆ (while0Ops0_11_W.map (Proc.devRef (τ := τ) .tc)).toFinset :=
  StableHlo.forall_writes_sub_of_map rfl
/-- The reference each operation of `while0Ops0_12` writes, in order. -/
abbrev while0Ops0_12_W : List (Ref sig .tc) := [main_while0b_v116, main_while0b_v117, main_while0b_v118, main_while0b_v119, main_while0b_v120, main_while0b_v121, main_while0b_v122, main_while0b_v123, main_while0b_cst_40, main_while0b_v124, main_while0b_cst_41, main_while0b_v125, main_while0b_cst_42, main_while0b_v126, main_while0b_v127, main_while0b_v128, main_while0b_cst_43, main_while0b_v129, main_while0b_cst_44, main_while0b_v130, main_while0b_cst_45, main_while0b_v131, main_while0b_v132, main_while0b_v133, main_while0b_v134, main_while0b_cst_46, main_while0b_v135, main_while0b_cst_47, main_while0b_v136, main_while0b_cst_48, main_while0b_v137, main_while0b_v138, main_while0b_v139, main_while0b_v140, main_while0b_v141, main_while0b_v142, main_while0b_v143, main_while0b_v144, main_while0b_v145]
/-- It writes no other. -/
theorem while0Ops0_12_writes : (while0Ops0_12 : List (HloOp τ sig (Elt F))).Forall fun op => op.writes ⊆ (while0Ops0_12_W.map (Proc.devRef (τ := τ) .tc)).toFinset :=
  StableHlo.forall_writes_sub_of_map rfl
/-- The reference each operation of `while0Ops0_13` writes, in order. -/
abbrev while0Ops0_13_W : List (Ref sig .tc) := [main_while0b_call8_v0, main_while0b_v146]
/-- It writes no other. -/
theorem while0Ops0_13_writes : (while0Ops0_13 : List (HloOp τ sig (Elt F))).Forall fun op => op.writes ⊆ (while0Ops0_13_W.map (Proc.devRef (τ := τ) .tc)).toFinset :=
  StableHlo.forall_writes_sub_of_map rfl
/-- The reference each operation of `while0Ops0_14` writes, in order. -/
abbrev while0Ops0_14_W : List (Ref sig .tc) := [main_while0b_call9_v0, main_while0b_call9_c, main_while0b_call9_c_0, main_while0b_v147]
/-- It writes no other. -/
theorem while0Ops0_14_writes : (while0Ops0_14 : List (HloOp τ sig (Elt F))).Forall fun op => op.writes ⊆ (while0Ops0_14_W.map (Proc.devRef (τ := τ) .tc)).toFinset :=
  StableHlo.forall_writes_sub_of_map rfl
/-- The reference each operation of `while0Ops0_15` writes, in order. -/
abbrev while0Ops0_15_W : List (Ref sig .tc) := [main_while0b_c_49, main_while0b_v148, main_v4_2, main_v4_3, main_v4_4, main_v4_5, main_v4_6]
/-- It writes no other. -/
theorem while0Ops0_15_writes : (while0Ops0_15 : List (HloOp τ sig (Elt F))).Forall fun op => op.writes ⊆ (while0Ops0_15_W.map (Proc.devRef (τ := τ) .tc)).toFinset :=
  StableHlo.forall_writes_sub_of_map rfl
/-- The reference each operation of `hostOps0_1` writes, in order. -/
abbrev hostOps0_1_W : List (Ref sig .tc) := [main_cst_2, main_v5, main_cst_3, main_v6, main_v7]
/-- It writes no other. -/
theorem hostOps0_1_writes : (hostOps0_1 : List (HloOp τ sig (Elt F))).Forall fun op => op.writes ⊆ (hostOps0_1_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while0c_c_10 (constantI S_ 32 8#32),
    StableHlo.binary main_v4_2 main_while0c_c_10 main_while0c_v8 (cmpi .slt) ]

/-- @main's stretches before the loop, the loop body's, and @main's after the loop. -/
abbrev preI : List (List (HloOp τ sig (Elt F))) := [hostOps0]
abbrev bodyI : List (List (HloOp τ sig (Elt F))) := [while0Ops0, while0Ops0_1, while0Ops0_2, while0Ops0_3, while0Ops0_4, while0Ops0_5, while0Ops0_6, while0Ops0_7, while0Ops0_8, while0Ops0_9, while0Ops0_10, while0Ops0_11, while0Ops0_12, while0Ops0_13, while0Ops0_14, while0Ops0_15]
abbrev postI : List (List (HloOp τ sig (Elt F))) := [hostOps0_1]

/-- A buffer that outlives the regions and lies on the device is one the host program names. -/
theorem named (b : DevRef τ sig) (hs : b.isScoped = false) (hh : b.space ≠ .host) : b ∈ tcRefs τ sig := by
  obtain ⟨t, i, u⟩ := b
  cases t with
  | hbm =>
    have e : sig.hbmOfSc i = false := Bool.eq_false_iff.mpr fun h => Bool.false_ne_true (hs.symm.trans (sig.hbmOfSc_scoped i h))
    have h : (⟨.hbm, i, u⟩ : DevRef τ sig) = Proc.devRef .tc ⟨.hbm, i, by simp [RefSig.names, e]⟩ :=
      congrArg (DevRef.mk Table.hbm i) (Topo.HbmHolder.eq_of_eq_false (τ := τ) e _ _)
    rw [h]
    exact devRef_mem_tcRefs _
  | host => exact absurd rfl hh
  | shared => exact absurd (hs.symm.trans (sig.sc_scoped _ i rfl)) Bool.false_ne_true
  | «local» κ cs =>
    cases κ with
    | tc => exact devRef_mem_tcRefs ⟨.core cs, i, rfl⟩
    | scScalar => exact absurd (hs.symm.trans (sig.sc_scoped _ i rfl)) Bool.false_ne_true
    | scVector => exact absurd (hs.symm.trans (sig.sc_scoped _ i rfl)) Bool.false_ne_true

/-- No operation of the program leaves a buffer undetermined. -/
theorem determined : ((preI (F := F) ++ bodyI ++ postI).flatten).Forall fun op : HloOp τ sig (Elt F) => op.fresh = ∅ := forall_fresh_of_map rfl

/-- Every operation touches buffers of the host program only, and determines what it writes. -/
theorem plain_all : Plain (preI (F := F) ++ bodyI ++ postI) := fun l hl =>
  ⟨fun op _ b hb => named b (op.no_scoped b hb) (op.on_device b hb),
    fun op ho => List.forall_iff_forall_mem.mp determined op (List.mem_flatten.mpr ⟨l, hl, ho⟩)⟩

/-- So the stretches before the loop. -/
theorem hpre : Plain (preI (F := F)) := fun l h => plain_all l (List.mem_append_left _ (List.mem_append_left _ h))
/-- So the loop's. -/
theorem hbodyI : Plain (bodyI (F := F)) := fun l h => plain_all l (List.mem_append_left _ (List.mem_append_right _ h))
/-- So those after it. -/
theorem hpost : Plain (postI (F := F)) := fun l h => plain_all l (List.mem_append_right _ h)

/-- The reference each operation of `condOps` writes, in order. -/
abbrev condOps_W : List (Ref sig .tc) := [main_while0c_c_10, main_while0c_v8]
/-- It writes no other. -/
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v4_2`) is written by one stretch of the body, `while0Ops0_15`: not by the condition, nor by the
    body's other stretches. -/
theorem ctr_cond (V : Valuation τ sig (Elt F)) : after condOps V (Proc.devRef .tc main_v4_2) = V (Proc.devRef .tc main_v4_2) :=
  after_of_writes_sub condOps V condOps_writes (by decide +kernel)

set_option maxRecDepth 100000 in
/-- `while0Ops0_15` leaves the counter one step on. -/
theorem ctr_step (X : Valuation τ sig (Elt F)) :
    after while0Ops0_15 X (Proc.devRef .tc main_v4_2) = addi (X (Proc.devRef .tc main_v4_2)) (constantI S_ 32 1#32) := by
  after_results
  rfl

/-- The counter is the loop's lower bound at the loop's entry: its last writer before the loop read back. -/
theorem ctr_entry (c : Dev nD) : entryContents preI m c (Proc.devRef .tc main_v4_2) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v4_2) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, after_of_writes_sub _ _ while0Ops0_14_writes (by decide +kernel), after_of_writes_sub _ _ while0Ops0_13_writes (by decide +kernel), after_of_writes_sub _ _ while0Ops0_12_writes (by decide +kernel), after_of_writes_sub _ _ while0Ops0_11_writes (by decide +kernel), after_of_writes_sub _ _ while0Ops0_10_writes (by decide +kernel), after_of_writes_sub _ _ while0Ops0_9_writes (by decide +kernel), after_of_writes_sub _ _ while0Ops0_8_writes (by decide +kernel), after_of_writes_sub _ _ while0Ops0_7_writes (by decide +kernel), after_of_writes_sub _ _ while0Ops0_6_writes (by decide +kernel), after_of_writes_sub _ _ while0Ops0_5_writes (by decide +kernel), after_of_writes_sub _ _ while0Ops0_4_writes (by decide +kernel), after_of_writes_sub _ _ while0Ops0_3_writes (by decide +kernel), after_of_writes_sub _ _ while0Ops0_2_writes (by decide +kernel), after_of_writes_sub _ _ while0Ops0_1_writes (by decide +kernel), after_of_writes_sub _ _ while0Ops0_writes (by decide +kernel), ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 8 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v4_2 HostLoop.idx0)
        (HloOp.result _ (atK m k c) main_while0c_c_10 HostLoop.idx0) = 1#1) (k < 8)
    rw [nullary_result_ne _ _ _ _ (by decide), nullary_result, hctr]
    exact Scf.cmpi_slt_iv_ub_iff (lb := 0#32) (ub := 8#32) (st := 1#32) (by decide) (show k ≤ Scf.trips 0#32 8#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 8 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 8 m ρ (cond_spec m)

end Cert.ReferenceIdeal.Fold

end
-- ==== Proof.RefFrame.lean ====
/- The reference leaves its arguments as they are and every counter at zero. -/
module

public import proofs.«01_k».proof.Proof.RefRun
public import Idealize.ShloMosaic.Lib.Quiescent

@[expose] public section

set_option maxRecDepth 16384

noncomputable section

namespace Cert.ReferenceIdeal.Fold

open Cert.ReferenceIdeal Cert.ReferenceIdeal.Gen
open Idealize.ShloMosaic Idealize.ShloMosaic.TcCoe Idealize.ShloMosaic.StableHlo

variable {F : FTy → Type} [FloatOps F]
variable (m : (ℓ : Loc nD τ sig) → Buf (Elt F) ℓ) (ρ : Dev nD → PrngReg)

/-- Every reference that one trip of the loop writes. -/
abbrev body_W : List (Ref sig .tc) :=
  while0Ops0_W ++ while0Ops0_1_W ++ while0Ops0_2_W ++ while0Ops0_3_W ++ while0Ops0_4_W ++ while0Ops0_5_W ++ while0Ops0_6_W ++ while0Ops0_7_W
    ++ while0Ops0_8_W ++ while0Ops0_9_W ++ while0Ops0_10_W ++ while0Ops0_11_W ++ while0Ops0_12_W ++ while0Ops0_13_W ++ while0Ops0_14_W ++ while0Ops0_15_W

/-- A reference that no trip writes keeps its contents through a trip. -/
theorem trip_keep (V : Valuation τ sig (Elt F)) (r : Ref sig .tc) (h : r ∉ body_W) : afterL bodyI V (Proc.devRef .tc r) = V (Proc.devRef .tc r) := by
  simp only [body_W, List.mem_append, not_or] at h
  obtain ⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩ := h
  simp only [afterL_cons, afterL_nil]
  rw [after_of_writes_sub _ _ while0Ops0_15_writes h15, after_of_writes_sub _ _ while0Ops0_14_writes h14, after_of_writes_sub _ _ while0Ops0_13_writes h13,
    after_of_writes_sub _ _ while0Ops0_12_writes h12, after_of_writes_sub _ _ while0Ops0_11_writes h11, after_of_writes_sub _ _ while0Ops0_10_writes h10,
    after_of_writes_sub _ _ while0Ops0_9_writes h9, after_of_writes_sub _ _ while0Ops0_8_writes h8, after_of_writes_sub _ _ while0Ops0_7_writes h7,
    after_of_writes_sub _ _ while0Ops0_6_writes h6, after_of_writes_sub _ _ while0Ops0_5_writes h5, after_of_writes_sub _ _ while0Ops0_4_writes h4,
    after_of_writes_sub _ _ while0Ops0_3_writes h3, after_of_writes_sub _ _ while0Ops0_2_writes h2, after_of_writes_sub _ _ while0Ops0_1_writes h1,
    after_of_writes_sub _ _ while0Ops0_writes h0]

/-- A reference that neither the condition nor a trip writes is, before any trip, as at the loop's entry. -/
theorem atK_keep (c : Dev nD) (r : Ref sig .tc) (h : r ∉ body_W) (hc : r ∉ condOps_W) :
    ∀ k, atK m k c (Proc.devRef .tc r) = entryContents preI m c (Proc.devRef .tc r)
  | 0 => rfl
  | k + 1 => by
    rw [show atK m (k + 1) c = afterL bodyI (after condOps (atK m k c)) from rfl, trip_keep _ r h,
      after_of_writes_sub condOps _ condOps_writes hc, atK_keep c r h hc k]

/-- An argument is never written. -/
theorem final_arg (c : Dev nD) (r : Ref sig .tc) (h : r ∉ body_W) (hc : r ∉ condOps_W) (h0 : r ∉ hostOps0_W) (h1 : r ∉ hostOps0_1_W) :
    finalContents condOps preI bodyI postI 8 m c (Proc.devRef .tc r) = m ((c.tc : Thread nD τ).loc r) := by
  show afterL postI (after condOps (atK m 8 c)) _ = _
  simp only [afterL_cons, afterL_nil]
  rw [after_of_writes_sub _ _ hostOps0_1_writes h1, after_of_writes_sub condOps _ condOps_writes hc, atK_keep m c r h hc 8]
  simp only [entryContents, afterL_cons, afterL_nil]
  rw [after_of_writes_sub _ _ hostOps0_writes h0]

/-- The reference's frame: its arguments end as launched and every counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
    ⟨(h c main_arg0 rfl).trans (final_arg m c _ (by decide +kernel) (by decide +kernel) (by decide +kernel) (by decide +kernel)),
      (h c main_arg1 rfl).trans (final_arg m c _ (by decide +kernel) (by decide +kernel) (by decide +kernel) (by decide +kernel))⟩,
    sem_eq_zero_of_no_sems rfl r.2⟩) (run_fold m ρ)

end Cert.ReferenceIdeal.Fold

end
-- ==== Proof.Spec.lean ====
/- The residual quantization of one token, over the extended reals: both programs are read against it. -/
module

public import Idealize.ShloMosaic.Lib.Pointwise
public import Mathlib.Data.EReal.Operations

@[expose] public section

noncomputable section

namespace Cert.Spec

open Idealize.ShloMosaic

/-- `i` is the first place of `d`'s least value. -/
def Least (d : Fin 1024 → EReal) (i : Fin 1024) : Prop := (∀ j, d i ≤ d j) ∧ ∀ j < i, d i < d j

/-- Some position is the first at which the least value is met. -/
theorem exists_least (d : Fin 1024 → EReal) : ∃ i, Least d i := by
  obtain ⟨a, ha⟩ := Finite.exists_min d
  have hne : (Finset.univ.filter fun j => d j = d a).Nonempty := ⟨a, by simp⟩
  refine ⟨Finset.min' _ hne, ?_, ?_⟩
  · intro j
    have h := Finset.min'_mem _ hne
    simp only [Finset.mem_filter, Finset.mem_univ, true_and] at h
    rw [h]; exact ha j
  · intro j hj
    have h := Finset.min'_mem _ hne
    simp only [Finset.mem_filter, Finset.mem_univ, true_and] at h
    rw [h]
    refine lt_of_le_of_ne (ha j) fun e => ?_
    exact absurd (Finset.min'_le _ j (by simp [e])) (not_le.mpr hj)

/-- There is only one such position. -/
theorem Least.unique {d : Fin 1024 → EReal} {i j : Fin 1024} (hi : Least d i) (hj : Least d j) : i = j := by
  rcases lt_trichotomy i j with h | h | h
  · exact absurd (hj.2 i h) (not_lt.mpr (hi.1 j))
  · exact h
  · exact absurd (hi.2 j h) (not_lt.mpr (hj.1 i))

/-- The first place of the least value. -/
def amin (d : Fin 1024 → EReal) : Fin 1024 := (exists_least d).choose

/-- The chosen position is such a one. -/
theorem amin_least (d : Fin 1024 → EReal) : Least d (amin d) := (exists_least d).choose_spec

/-- Any such position is the chosen one. -/
theorem amin_eq {d : Fin 1024 → EReal} {i : Fin 1024} (h : Least d i) : amin d = i := (amin_least d).unique h

/-- A row's squared distance to each code, `2` being the literal the programs multiply by. -/
def dist (x : Fin 256 → EReal) (w : Fin 1024 → Fin 256 → EReal) (k : Fin 1024) : EReal :=
  ∑ d, x d * x d + ∑ d, w k d * w k d - Ideal.ofBits FTy.f32 1073741824#32 * ∑ d, x d * w k d

/-- The two groups of a token's channels. -/
def half (r : Fin 512 → EReal) (g : Fin 2) (d : Fin 256) : EReal := r ⟨256 * g.val + d.val, by omega⟩

/-- The code of group `g`. -/
def pos (r : Fin 512 → EReal) (T : Fin 2 → Fin 1024 → Fin 256 → EReal) (g : Fin 2) : Fin 1024 :=
  amin (dist (half r g) (T g))

/-- The code vectors of both groups. -/
def vec (r : Fin 512 → EReal) (T : Fin 2 → Fin 1024 → Fin 256 → EReal) (c : Fin 512) : EReal :=
  if h : c.val < 256 then T 0 (pos r T 0) ⟨c.val, h⟩ else T 1 (pos r T 1) ⟨c.val - 256, by omega⟩

/-- The residual before layer `i`. -/
def res (x : Fin 512 → EReal) (T : ℕ → Fin 2 → Fin 1024 → Fin 256 → EReal) : ℕ → Fin 512 → EReal
  | 0 => x
  | i + 1 => fun c => res x T i c - vec (res x T i) (T i) c

/-- The sum of the code vectors before layer `i`. -/
def acc (x : Fin 512 → EReal) (T : ℕ → Fin 2 → Fin 1024 → Fin 256 → EReal) : ℕ → Fin 512 → EReal
  | 0 => fun _ => 0
  | i + 1 => fun c => acc x T i c + vec (res x T i) (T i) c

/-- The square of a token's residual after layer `i`. -/
def sqr (x : Fin 512 → EReal) (T : ℕ → Fin 2 → Fin 1024 → Fin 256 → EReal) (i : ℕ) : EReal :=
  ∑ c, res x T (i + 1) c * res x T (i + 1) c

/-- The cross entropy of a table, each code its own label; `3` and the number of codes are the programs' literals. -/
def entropy (w : Fin 1024 → Fin 256 → EReal) : EReal :=
  Ideal.div (∑ i, (Ideal.log (∑ k, Ideal.exp (Ideal.ofBits FTy.f32 1077936128#32 * (∑ d, w i d * w k d)
      - Finset.fold max (Ideal.ofBits FTy.f32 4286578688#32) (fun k => Ideal.ofBits FTy.f32 1077936128#32 * ∑ d, w i d * w k d) Finset.univ))
    + Finset.fold max (Ideal.ofBits FTy.f32 4286578688#32) (fun k => Ideal.ofBits FTy.f32 1077936128#32 * ∑ d, w i d * w k d) Finset.univ
    - Ideal.ofBits FTy.f32 1077936128#32 * ∑ d, w i d * w i d)) (Ideal.ofBits FTy.f32 1149239296#32)

/-! Real values stay real. -/

/-- `a` is a real number. -/
def Fin' (a : EReal) : Prop := a ≠ ⊤ ∧ a ≠ ⊥

/-- Adding a difference back gives the value, for real numbers. -/
theorem Fin'.sub_add {a b : EReal} (ha : Fin' a) (hb : Fin' b) : a + (b - a) = b := by
  lift a to ℝ using ha
  lift b to ℝ using hb
  rw [← EReal.coe_sub, ← EReal.coe_add]
  congr 1
  ring

/-- A difference of real numbers is real. -/
theorem Fin'.sub {a b : EReal} (ha : Fin' a) (hb : Fin' b) : Fin' (a - b) := by
  lift a to ℝ using ha
  lift b to ℝ using hb
  rw [← EReal.coe_sub]
  exact ⟨EReal.coe_ne_top _, EReal.coe_ne_bot _⟩

/-- A real number less itself is zero. -/
theorem Fin'.sub_self {a : EReal} (ha : Fin' a) : a - a = 0 := by
  lift a to ℝ using ha
  rw [← EReal.coe_sub, _root_.sub_self, EReal.coe_zero]

/-- The square of a difference does not depend on its sign. -/
theorem Fin'.sq_comm {a b : EReal} (ha : Fin' a) (hb : Fin' b) : (b - a) * (b - a) = (a - b) * (a - b) := by
  lift a to ℝ using ha
  lift b to ℝ using hb
  rw [← EReal.coe_sub, ← EReal.coe_sub, ← EReal.coe_mul, ← EReal.coe_mul]
  congr 1
  ring

/-- The chosen rows are real where the tables are. -/
theorem vec_fin {r : Fin 512 → EReal} {T : Fin 2 → Fin 1024 → Fin 256 → EReal} (hT : ∀ g k d, Fin' (T g k d)) (c : Fin 512) :
    Fin' (vec r T c) := by
  unfold vec
  split
  · exact hT _ _ _
  · exact hT _ _ _

/-- Every residual is real where the input and the tables are. -/
theorem res_fin {x : Fin 512 → EReal} {T : ℕ → Fin 2 → Fin 1024 → Fin 256 → EReal} (hx : ∀ c, Fin' (x c))
    (hT : ∀ i g k d, Fin' (T i g k d)) : ∀ i c, Fin' (res x T i c)
  | 0, c => hx c
  | i + 1, c => (res_fin hx hT i c).sub (vec_fin (hT i) c)

/-! The two ways the programs find the code, and the indicator's row of a table. -/

/-- A minimum taken from infinity is the value at the first least position. -/
theorem fold_min_eq {d : Fin 1024 → EReal} {i : Fin 1024} (h : Least d i) :
    Finset.fold min (⊤ : EReal) d Finset.univ = d i :=
  le_antisymm ((Finset.fold_min_le _).mpr (.inr ⟨i, Finset.mem_univ _, le_rfl⟩))
    ((Finset.le_fold_min _).mpr ⟨le_top, fun j _ => h.1 j⟩)

/-- A small number read back from its word. -/
theorem toInt_ofNat (j : ℕ) (hj : j ≤ 1024) : (BitVec.ofNat 32 j).toInt = j := by
  have h : (BitVec.ofNat 32 j).toNat = j := by rw [BitVec.toNat_ofNat]; omega
  rw [BitVec.toInt_eq_toNat_of_lt (by omega), h]

/-- The least of the places kept, the others read as `1024`. -/
theorem fold_minsi {P : Fin 1024 → Prop} [DecidablePred P] {i : Fin 1024} (hi : P i) (hl : ∀ j, P j → i ≤ j) :
    Finset.fold IntOp.minsi (2147483647#32) (fun x : Fin 1024 => if P x then BitVec.ofNat 32 x.val else 1024#32) Finset.univ
      = BitVec.ofNat 32 i.val := by
  apply BitVec.eq_of_toInt_eq
  have hm : ∀ a b : BitVec 32, (IntOp.minsi a b).toInt = min a.toInt b.toInt := by
    intro a b
    unfold IntOp.minsi
    simp only [BitVec.slt, decide_eq_true_eq]
    split <;> omega
  have ei : (BitVec.ofNat 32 i.val).toInt = i.val := toInt_ofNat i.val (by omega)
  rw [← Finset.fold_hom hm, ei]
  refine le_antisymm ((Finset.fold_min_le _).mpr (.inr ⟨i, Finset.mem_univ _, ?_⟩)) ((Finset.le_fold_min _).mpr ⟨?_, fun j _ => ?_⟩)
  · rw [if_pos hi, ei]
  · have : (2147483647#32 : BitVec 32).toInt = 2147483647 := by decide
    rw [this]; omega
  · split
    · rename_i hj
      have := hl j hj
      rw [toInt_ofNat j.val (by omega)]
      have : i.val ≤ j.val := this
      omega
    · have : (1024#32 : BitVec 32).toInt = 1024 := by decide
      rw [this]; omega

/-- Two codes with the same word are the same. -/
theorem ofNat_inj {i j : Fin 1024} (h : BitVec.ofNat 32 i.val = BitVec.ofNat 32 j.val) : i = j := by
  have := congrArg BitVec.toInt h
  rw [toInt_ofNat i.val (by omega), toInt_ofNat j.val (by omega)] at this
  exact Fin.ext (by exact_mod_cast this)

end Cert.Spec

end
-- ==== Proof.Finite.lean ====
/- What the precondition says: every entry of both arguments is a real number. -/
module

public import proofs.«01_k».proof.Pre_finite
public import proofs.«01_k».proof.Proof.Spec
public import Idealize.ShloMosaic.Lib.Pointwise

@[expose] public section

set_option maxRecDepth 16384

noncomputable section

namespace Cert.Pre_finite

open Idealize.ShloMosaic

/-- The shape facts the precondition is stated over. -/
theorem facts : Facts where
  bcast_S_S16x512x2048 := by decide
  reducesTo_S16x512x2048_S_d0_1_2 := by decide
  h_S_ := by decide
  bcast_S_S8x2x1024x256 := by decide
  reducesTo_S8x2x1024x256_S_d0_1_2_3 := by decide

/-- A conjunction over a whole array holds at each entry. -/
theorem entry_of_all {s u : Shape} {axes : List (Fin s.rank)} (x : IVec s 1) (init : u.Idx → BitVec 1) (h : s.ReducesTo axes S_) (hu : 0 < u.numel)
    (j : S_.Idx) (e : Host.reduce IntOp.andi x init h hu j = 1#1) (i : s.Idx) : x i = 1#1 := by
  rw [Host.reduce_eq_fold] at e
  have hr : ∀ _x y z : BitVec 1, IntOp.andi y z = 1#1 ↔ y = 1#1 ∧ z = 1#1 := by decide
  exact ((Finset.fold_op_rel_iff_and (r := fun _ y => y = 1#1) (c := 0#1) (hr := fun {a b c} => hr a b c)).mp e).2 i
    (Finset.mem_filter.mpr ⟨Finset.mem_univ _, funext fun a => a.elim0⟩)

/-- An entry whose magnitude is below infinity is a real number. -/
theorem fin_of_lt (a : Ideal .f32) (h : FloatOps.cmpf .olt (FloatOps.absf a) (Ideal.ofBits FTy.f32 2139095040#32) = 1#1) : Spec.Fin' a := by
  have ht : Ideal.ofBits FTy.f32 2139095040#32 = (⊤ : EReal) := by simp [Ideal.ofBits, Ideal.ieee]
  rw [ht, Ideal.cmpf_def, Ideal.absf_def] at h
  have hl : max (show EReal from a) (-a) < ⊤ := by
    by_contra hn
    simp [Ideal.cmp, hn] at h
  obtain ⟨h1, h2⟩ := max_lt_iff.mp hl
  exact ⟨h1.ne, fun e => h2.ne (by rw [e]; rfl)⟩

/-- The precondition, read entry by entry over both arguments. -/
theorem finite_of [Facts] (x : FVec Ideal S16x512x2048 .f32) (cb : FVec Ideal S8x2x1024x256 .f32) (h : fn (F := Ideal) x cb = fun _ => 1#1) :
    (∀ i, Spec.Fin' (x i)) ∧ ∀ i, Spec.Fin' (cb i) := by
  have e := congrFun h ix0
  have hr : ∀ y z : BitVec 1, IntOp.andi y z = 1#1 ↔ y = 1#1 ∧ z = 1#1 := by decide
  unfold fn at e
  obtain ⟨e1, e2⟩ := (hr _ _).mp e
  exact ⟨fun i => fin_of_lt _ (entry_of_all _ _ _ _ _ e1 i), fun i => fin_of_lt _ (entry_of_all _ _ _ _ _ e2 i)⟩

end Cert.Pre_finite

end
-- ==== Proof.KRun.lean ====
/- The kernel's run: every buffer of the host program after it. -/
module

public import proofs.«01_k».proof.Proof.Gen.KernelIdeal.Frame

@[expose] public section

set_option maxRecDepth 16384

noncomputable section

namespace Cert.KernelIdeal.KRun

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a rule stated for any thread unifies only when unification may unfold plain definitions in a metavariable's type
set_option backward.isDefEq.respectTransparency.types false in
/-- Every fair execution ends with each buffer that outlives its region at the last boundary's contents. -/
theorem run_all : θ_run defs (onTc (τ := τ) (main (F := F))) ⟨m, fun _ => 0, ρ⟩ (fun r => ∀ (c : Dev nD) (b : Ref sig .tc),
      ¬ (Proc.devRef .tc b : DevRef τ sig).isScoped → r.2.mem ((c.tc : Thread nD τ).loc b) = W5 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c b hb => h c _ (mem_uc b hb))

end Cert.KernelIdeal.KRun

end
-- ==== Proof.Stage.lean ====
/- The kernel's block of 512 tokens, layer by layer, in one vocabulary. -/
module

public import proofs.«01_k».proof.Proof.KRun
public import Idealize.ShloMosaic.Lib.Pipeline.Value

@[expose] public section

set_option maxRecDepth 16384

noncomputable section

namespace Cert.KernelIdeal.Stage

open Cert.KernelIdeal Cert.KernelIdeal.Gen
open Idealize.ShloMosaic Idealize.ShloMosaic.TcCoe Idealize.SL.Sem

variable {F : FTy → Type} [FloatOps F]

/-- The left and the right half of a block's columns. -/
def half (r : FVec F S512x512 .f32) : Fin 2 → FVec F S512x256 .f32
  | 0 => extractStridedSlice S512x256 ![0, 0] r slices_S512x512_o0_0_S512x256
  | 1 => extractStridedSlice S512x256 ![0, 256] r slices_S512x512_o0_256_S512x256

/-- The squared distance of each row to each code, as the kernel adds it up. -/
def dist (x : FVec F S512x256 .f32) (w : FVec F S1024x256 .f32) (b : Vec F S1x1024 .f32) : FVec F S512x1024 .f32 :=
  subf (addf (broadcastTo S512x1024 (shapeCast S512x1 (multiReduction .add [1] S512 (mulf x x) 0x00000000#32 reduces_S512x256_S512 (.inl rfl) rfl)
        shapeCasts_S512_S512x1) broadcasts_S512x1_S512x1024)
      (broadcastTo S512x1024 (shapeCast S1x1024 (shapeCast S1024 b shapeCasts_S1x1024_S1024) shapeCasts_S1024_S1x1024) broadcasts_S1x1024_S512x1024))
    (mulf (broadcast S512x1024 (Scalar.ofBits .f32 0x40000000#32))
      (matmul dot_S512x256_S1024x256_S512x1024_1_1_0_0_n_n none x w (constant S512x1024 .f32 0x00000000#32)))

/-- The first code at each row's least distance. -/
def code (d : FVec F S512x1024 .f32) : IVec S512 32 :=
  multiReductionI .minsi [1] S512
    (select (cmpf .oeq d (broadcastTo S512x1024 (shapeCast S512x1
        (multiReduction .minimumf [1] S512 d 0x7F800000#32 reduces_S512x1024_S512 (.inl rfl) rfl) shapeCasts_S512_S512x1) broadcasts_S512x1_S512x1024))
      (iota .tc S512x1024 32 [1] iota_S512x1024_d1_w32) (broadcast S512x1024 1024#32)) 2147483647#32 reduces_S512x1024_S512 rfl

/-- The indicator of each row's code. -/
def hot (k : IVec S512 32) : FVec F S512x1024 .bf16 :=
  truncf .bf16 (sitofp .f32 (extui 32 (cmpi .eq (iota .tc S512x1024 32 [1] iota_S512x1024_d1_w32)
    (broadcastTo S512x1024 (shapeCast S512x1 k shapeCasts_S512_S512x1) broadcasts_S512x1_S512x1024)) natLt_1_32)) bitsLt_bf16_f32

/-- Each row's code vector: the indicator times the table's leading part plus the indicator times what that part leaves. -/
def pick (k : IVec S512 32) (w : FVec F S1024x256 .f32) : FVec F S512x256 .f32 :=
  addf (matmul dot_S512x1024_S1024x256_S512x256_1_0_0_1_n_n none (hot (F := F) k) (truncf .bf16 w bitsLt_bf16_f32) (constant S512x256 .f32 0x00000000#32))
    (matmul dot_S512x1024_S1024x256_S512x256_1_0_0_1_n_n none (hot (F := F) k)
      (truncf .bf16 (subf w (extf .f32 (truncf .bf16 w bitsLt_bf16_f32) bitsLt_bf16_f32)) bitsLt_bf16_f32) (constant S512x256 .f32 0x00000000#32))

section Layers

variable (x : Vec F S512x512 .f32) (w : ℕ → Fin 2 → Vec F S1x1x1024x256 .f32) (b : ℕ → Fin 2 → Vec F S1x1024 .f32)

/-- The codes of layer `i`'s group `g`, from the residual before the layer. -/
def codeOf (r : FVec F S512x512 .f32) (i : ℕ) (g : Fin 2) : IVec S512 32 :=
  code (dist (half r g) (shapeCast S1024x256 (w i g) shapeCasts_S1x1x1024x256_S1024x256) (b i g))

/-- The code vectors of layer `i`, both groups side by side. -/
def vecOf (r : FVec F S512x512 .f32) (i : ℕ) : FVec F S512x512 .f32 :=
  concatenate S512x512 1 [⟨S512x256, pick (codeOf w b r i 0) (shapeCast S1024x256 (w i 0) shapeCasts_S1x1x1024x256_S1024x256)⟩,
    ⟨S512x256, pick (codeOf w b r i 1) (shapeCast S1024x256 (w i 1) shapeCasts_S1x1x1024x256_S1024x256)⟩] concatenates_S512x256_S512x256_S512x512_d1

/-- The residual before layer `i`. -/
def res : ℕ → FVec F S512x512 .f32
  | 0 => shapeCast S512x512 x shapeCasts_S512x512_S512x512
  | i + 1 => subf (res i) (vecOf w b (res i) i)

/-- The sum of the code vectors before layer `i`. -/
def acc : ℕ → FVec F S512x512 .f32
  | 0 => broadcast S512x512 (Scalar.ofBits .f32 0x00000000#32)
  | i + 1 => addf (acc i) (vecOf w b (res x w b i) i)

/-- The sum of the squares of a block. -/
def sq (r : FVec F S512x512 .f32) : F .f32 :=
  extractAt ![0, 0, 0] (shapeCast S1x1x1 (multiReduction .add [1, 2] S1 (shapeCast S1x512x512 (mulf r r) shapeCasts_S512x512_S1x512x512) 0x00000000#32
    reduces_S1x512x512_S1 (.inl rfl) rfl) shapeCasts_S1_S1x1x1) inpos_S1x1x1_p0_0_0

end Layers

/-- Layer `i`'s table of group `g`, as the kernel loads it. -/
def tab (x1 : Vec F S8x2x1024x256 .f32) (i : ℕ) (g : Fin 2) : Vec F S1x1x1024x256 .f32 :=
  View.ld x1 (Rect.unit (s := S8x2x1024x256) ![(Fin.ofNat 8 i).val, g.val, 0, 0] S1x1x1024x256.size (by
    intro a
    have h1 := (Fin.ofNat 8 i).isLt
    have h2 := g.isLt
    fin_cases a <;> simp [S8x2x1024x256, S1x1x1024x256] <;> omega))

/-- Layer `i`'s row of squared lengths of group `g`, as the kernel loads it. -/
def row (x2 : Vec F S16x1024 .f32) (i : ℕ) (g : Fin 2) : Vec F S1x1024 .f32 :=
  View.ld x2 (Rect.unit (s := S16x1024) ![2 * (Fin.ofNat 8 i).val + g.val, 0] S1x1024.size (by
    intro a
    have h1 := (Fin.ofNat 8 i).isLt
    have h2 := g.isLt
    fin_cases a <;> simp [S16x1024, S1x1024] <;> omega))

end Cert.KernelIdeal.Stage

end
-- ==== Proof.KVal.lean ====
/- What one grid point of the residual-quantization kernel leaves in its output blocks. -/
module

public import proofs.«01_k».proof.Proof.Stage

@[expose] public section

set_option maxRecDepth 16384

noncomputable section

namespace Cert.KernelIdeal.KV

open Cert.KernelIdeal.Gen Cert.KernelIdeal Cert.KernelIdeal.Stage
open Idealize.ShloMosaic Idealize.ShloMosaic.TcCoe Idealize.SL.Sem
open Idealize.ShloMosaic.Pipeline (Dat)

variable {F : FTy → Type} [FloatOps F]

/-- The zero offset. -/
theorem hz2 : (![0, 0] : Fin 2 → Nat) = fun _ => 0 := funext fun a => by fin_cases a <;> rfl

/-- The rectangle of the index block that layer `i`'s group `g` stores into. -/
def strip (i : ℕ) (g : Fin 2) : Rect S1x16x512 :=
  Rect.unit (s := S1x16x512) ![0, 2 * (Fin.ofNat 8 i).val + g.val, 0] S1x1x512.size (by
    intro a
    have h1 := (Fin.ofNat 8 i).isLt
    have h2 := g.isLt
    fin_cases a <;> simp [S1x16x512, S1x1x512] <;> omega)

/-- The index stores of the layers before `n`, the last first. -/
def strips (x : Vec F S512x512 .f32) (w : ℕ → Fin 2 → Vec F S1x1x1024x256 .f32) (b : ℕ → Fin 2 → Vec F S1x1024 .f32) :
    ℕ → List (View.Piece (Elt F) S1x16x512 .i32)
  | 0 => []
  | i + 1 => ⟨strip i 1, shapeCast S1x1x512 (codeOf w b (res x w b i) i 1) shapeCasts_S512_S1x1x512⟩ ::
      ⟨strip i 0, shapeCast S1x1x512 (codeOf w b (res x w b i) i 0) shapeCasts_S512_S1x1x512⟩ :: strips x w b i

/-- What a block adds to the running sums of squares: layer by layer, the squares of the residual after it. -/
def sums (x : Vec F S512x512 .f32) (w : ℕ → Fin 2 → Vec F S1x1x1024x256 .f32) (b : ℕ → Fin 2 → Vec F S1x1024 .f32) : FVec F S8 .f32 :=
  concatenate S8 0 [⟨S1, broadcast S1 (sq (res x w b 1))⟩, ⟨S1, broadcast S1 (sq (res x w b 2))⟩, ⟨S1, broadcast S1 (sq (res x w b 3))⟩,
    ⟨S1, broadcast S1 (sq (res x w b 4))⟩, ⟨S1, broadcast S1 (sq (res x w b 5))⟩, ⟨S1, broadcast S1 (sq (res x w b 6))⟩,
    ⟨S1, broadcast S1 (sq (res x w b 7))⟩, ⟨S1, broadcast S1 (sq (res x w b 8))⟩] concatenates_S1_S1_S1_S1_S1_S1_S1_S1_S8_d0

section Point

variable (c : Dev nD) (i : grid0.Coords) (a1 : Memref sig .tc .vmem S512x512 .f32) (h1 : a1.IsWhole) (a2 : Memref sig .tc .vmem S8x2x1024x256 .f32)
  (h2 : a2.IsWhole) (a3 : Memref sig .tc .vmem S16x1024 .f32) (h3 : a3.IsWhole) (a4 : Memref sig .tc .vmem S512x512 .f32) (h4 : a4.IsWhole)
  (a5 : Memref sig .tc .vmem S1x16x512 .i32) (h5 : a5.IsWhole) (a6 : Memref sig .tc .vmem S8x128 .f32) (h6 : a6.IsWhole)
  (x0 : Vec F S512x512 .f32) (x1 : Vec F S8x2x1024x256 .f32) (x2 : Vec F S16x1024 .f32) (xo : Vec F S8x128 .f32)

/-- The block of rows as the body loads it. -/
abbrev l1 : Vec F S512x512 .f32 :=
  View.ld (a1.view.read (Elt F) (h1.unread x0)) (Rect.unit (s := S512x512) ![0, 0] S512x512.size inb_S512x512_S512x512_0_0)

/-- It is the block. -/
theorem l1_eq : l1 a1 h1 x0 = x0 := by
  rw [l1, h1.read_unread, View.ld_unit_zero (S := S512x512) hz2]

/-- The quantized block at the first point. -/
theorem quant_A (hc0 : cond0_0 i) :
    out0_A_3 c i a1 h1 a2 h2 a3 h3 a4 h4 a5 h5 a6 h6 hc0 x0 x1 x2 = acc x0 (tab x1) (row x2) 8 := by
  unfold out0_A_3
  rw [View.read_writes_eq_canon _ _ _ (cover0_A_3 c i a1 h1 a2 h2 a3 h3 a4 h4 a5 h5 a6 h6 hc0 x0 x1 x2)]
  unfold kernelRun0_A
  dsimp only
  rw [View.canon_unit_zero hz2]
  have e : acc (l1 a1 h1 x0) (tab (a2.view.read (Elt F) (h2.unread x1))) (row (a3.view.read (Elt F) (h3.unread x2))) 8 = acc x0 (tab x1) (row x2) 8 := by
    rw [l1_eq, h2.read_unread, h3.read_unread]
  refine Eq.trans ?_ e
  sl_kernel_rfl

/-- The quantized block at a later point. -/
theorem quant_B (hc0 : ¬cond0_0 i) :
    out0_B_3 c i a1 h1 a2 h2 a3 h3 a4 h4 a5 h5 a6 h6 hc0 x0 x1 x2 xo = acc x0 (tab x1) (row x2) 8 := by
  unfold out0_B_3
  rw [View.read_writes_eq_canon _ _ _ (cover0_B_3 c i a1 h1 a2 h2 a3 h3 a4 h4 a5 h5 a6 h6 hc0 x0 x1 x2 xo)]
  unfold kernelRun0_B
  dsimp only
  rw [View.canon_unit_zero hz2]
  have e : acc (l1 a1 h1 x0) (tab (a2.view.read (Elt F) (h2.unread x1))) (row (a3.view.read (Elt F) (h3.unread x2))) 8 = acc x0 (tab x1) (row x2) 8 := by
    rw [l1_eq, h2.read_unread, h3.read_unread]
  refine Eq.trans ?_ e
  sl_kernel_rfl

/-- The index block at the first point. -/
theorem codes_A (hc0 : cond0_0 i) :
    out0_A_4 c i a1 h1 a2 h2 a3 h3 a4 h4 a5 h5 a6 h6 hc0 x0 x1 x2 = View.canon (strips x0 (tab x1) (row x2) 8) := by
  unfold out0_A_4
  rw [View.read_writes_eq_canon _ _ _ (cover0_A_4 c i a1 h1 a2 h2 a3 h3 a4 h4 a5 h5 a6 h6 hc0 x0 x1 x2)]
  have e : strips (l1 a1 h1 x0) (tab (a2.view.read (Elt F) (h2.unread x1))) (row (a3.view.read (Elt F) (h3.unread x2))) 8 = strips x0 (tab x1) (row x2) 8 := by
    rw [l1_eq, h2.read_unread, h3.read_unread]
  refine congrArg View.canon (Eq.trans ?_ e)
  sl_kernel_rfl

/-- The index block at a later point. -/
theorem codes_B (hc0 : ¬cond0_0 i) :
    out0_B_4 c i a1 h1 a2 h2 a3 h3 a4 h4 a5 h5 a6 h6 hc0 x0 x1 x2 xo = View.canon (strips x0 (tab x1) (row x2) 8) := by
  unfold out0_B_4
  rw [View.read_writes_eq_canon _ _ _ (cover0_B_4 c i a1 h1 a2 h2 a3 h3 a4 h4 a5 h5 a6 h6 hc0 x0 x1 x2 xo)]
  have e : strips (l1 a1 h1 x0) (tab (a2.view.read (Elt F) (h2.unread x1))) (row (a3.view.read (Elt F) (h3.unread x2))) 8 = strips x0 (tab x1) (row x2) 8 := by
    rw [l1_eq, h2.read_unread, h3.read_unread]
  refine congrArg View.canon (Eq.trans ?_ e)
  sl_kernel_rfl

/-- The sums of squares after the first point: from zero. -/
theorem sums_A (hc0 : cond0_0 i) :
    out0_A_5 c i a1 h1 a2 h2 a3 h3 a4 h4 a5 h5 a6 h6 hc0 x0 x1 x2
      = k0_pay2 (sums x0 (tab x1) (row x2)) (broadcast S8x128 (Scalar.ofBits .f32 0x00000000#32)) := by
  unfold out0_A_5
  rw [View.read_writes_eq_canon _ _ _ (cover0_A_5 c i a1 h1 a2 h2 a3 h3 a4 h4 a5 h5 a6 h6 hc0 x0 x1 x2)]
  unfold kernelRun0_A
  dsimp only
  rw [View.canon_cons_unit_zero hz2]
  have e : sums (l1 a1 h1 x0) (tab (a2.view.read (Elt F) (h2.unread x1))) (row (a3.view.read (Elt F) (h3.unread x2))) = sums x0 (tab x1) (row x2) := by
    rw [l1_eq, h2.read_unread, h3.read_unread]
  have ez : kernelRun0_A.sl.v725 c a6 = (broadcast S8x128 (Scalar.ofBits .f32 0x00000000#32) : FVec F S8x128 .f32) := by
    unfold kernelRun0_A.sl.v725
    exact View.readCov_unit_zero (S := S8x128) _ hz2 _ _
  refine Eq.trans ?_ (congrArg₂ k0_pay2 e ez)
  sl_kernel_rfl

/-- The sums of squares after a later point: over what the point before left. -/
theorem sums_B (hc0 : ¬cond0_0 i) :
    out0_B_5 c i a1 h1 a2 h2 a3 h3 a4 h4 a5 h5 a6 h6 hc0 x0 x1 x2 xo = k0_pay2 (sums x0 (tab x1) (row x2)) xo := by
  unfold out0_B_5
  rw [View.read_writes_eq_canon _ _ _ (cover0_B_5 c i a1 h1 a2 h2 a3 h3 a4 h4 a5 h5 a6 h6 hc0 x0 x1 x2 xo)]
  unfold kernelRun0_B
  dsimp only
  rw [View.canon_unit_zero hz2]
  have e : sums (l1 a1 h1 x0) (tab (a2.view.read (Elt F) (h2.unread x1))) (row (a3.view.read (Elt F) (h3.unread x2))) = sums x0 (tab x1) (row x2) := by
    rw [l1_eq, h2.read_unread, h3.read_unread]
  have ex : View.ld (a6.view.read (Elt F) (h6.unread xo)) (Rect.unit (s := S8x128) ![0, 0] S8x128.size inb_S8x128_S8x128_0_0) = xo := by
    rw [h6.read_unread, View.ld_unit_zero (S := S8x128) hz2]
  refine Eq.trans ?_ (congrArg₂ k0_pay2 e ex)
  sl_kernel_rfl

end Point

end Cert.KernelIdeal.KV

end
-- ==== Proof.KIdeal.lean ====
/- The kernel's block, row by row, against one token's residual quantization. -/
module

public import proofs.«01_k».proof.Proof.KVal
public import proofs.«01_k».proof.Proof.Spec

@[expose] public section

set_option maxRecDepth 16384

noncomputable section

namespace Cert.KernelIdeal.Stage

open Cert.KernelIdeal Cert.KernelIdeal.Gen
open Idealize.ShloMosaic Idealize.ShloMosaic.TcCoe Idealize.SL.Sem

/-- The distances of a row. -/
theorem dist_apply (x : FVec Ideal S512x256 .f32) (w : FVec Ideal S1024x256 .f32) (b : Vec Ideal S1x1024 .f32)
    (hb : ∀ k : Fin 1024, b (ix2 0 k) = ∑ d : Fin 256, w (ix2 k d) * w (ix2 k d)) (p : Fin 512) (k : Fin 1024) :
    dist x w b (ix2 p k) = Spec.dist (fun d => x (ix2 p d)) (fun k d => w (ix2 k d)) k := by
  pointwise [dist]
  rw [hb]
  rfl

/-- The code of a row: the first place of its least distance. -/
theorem code_apply (d : FVec Ideal S512x1024 .f32) (p : Fin 512) :
    code d (ix1 p) = BitVec.ofNat 32 (Spec.amin fun k : Fin 1024 => d (ix2 p k)).val := by
  pointwise [code]
  have h := Spec.amin_least fun k : Fin 1024 => d (ix2 p k)
  have ht : Ideal.ofBits FTy.f32 2139095040#32 = (⊤ : EReal) := by simp [Ideal.ofBits, Ideal.ieee]
  rw [ht]
  rw [show Finset.fold min (⊤ : EReal) (fun k : Fin 1024 => d (ix2 p k)) Finset.univ = _ from Spec.fold_min_eq h]
  exact Spec.fold_minsi (P := fun k : Fin 1024 => d (ix2 p k) = _) rfl fun j hj => by
    by_contra hlt
    exact absurd (h.2 j (not_le.mp hlt)) (by simp [show d (ix2 p j) = _ from hj])

/-- The indicator's row of a table is the table's row at the code. -/
theorem pick_apply (k : IVec S512 32) (w : FVec Ideal S1024x256 .f32) (i : Fin 1024) (p : Fin 512) (c : Fin 256)
    (hk : k (ix1 p) = BitVec.ofNat 32 i.val) (hw : ∀ j : Fin 1024, Spec.Fin' (w (ix2 j c))) :
    pick k w (ix2 p c) = w (ix2 i c) := by
  pointwise [pick, hot]
  have h0 : ∀ j : Fin 1024, w (ix2 j c) - w (ix2 j c) = (0 : EReal) := fun j => (hw j).sub_self
  rw [Finset.sum_eq_single i, Finset.sum_eq_zero]
  · rw [hk]
    have e : FloatOps.sitofp (F := Ideal) FTy.f32 (1#32) = (1 : EReal) := by
      show (((1#32 : BitVec 32).toInt : ℝ) : EReal) = 1
      rw [show (1#32 : BitVec 32).toInt = 1 by decide]
      simp
    simp only [IntOp.cmpi, beq_self_eq_true, BitVec.ofBool_true]
    rw [show BitVec.setWidth 32 (1 : BitVec 1) = 1#32 by decide, e, one_mul, add_zero]
  · intro j _
    rw [h0, mul_zero]
  · intro j _ hj
    have : ¬ BitVec.ofNat 32 j.val = BitVec.ofNat 32 i.val := fun e => hj (Spec.ofNat_inj e)
    rw [hk]
    have e : FloatOps.sitofp (F := Ideal) FTy.f32 (0#32) = (0 : EReal) := by
      show (((0#32 : BitVec 32).toInt : ℝ) : EReal) = 0
      rw [show (0#32 : BitVec 32).toInt = 0 by decide]
      simp
    simp only [IntOp.cmpi, beq_eq_false_iff_ne.mpr this, BitVec.ofBool_false]
    rw [show BitVec.setWidth 32 (0 : BitVec 1) = 0#32 by decide, e, zero_mul]
  · simp

section Rows

variable (x : Vec Ideal S512x512 .f32) (w : ℕ → Fin 2 → Vec Ideal S1x1x1024x256 .f32) (b : ℕ → Fin 2 → Vec Ideal S1x1024 .f32)
  (T : ℕ → Fin 2 → Fin 1024 → Fin 256 → EReal)

/-- The block's tables are `T`, real, and the rows of squared lengths are those of `T`. -/
structure Fits : Prop where
  table : ∀ i g k d, shapeCast S1024x256 (w i g) shapeCasts_S1x1x1024x256_S1024x256 (ix2 k d) = T i g k d
  lengths : ∀ i g k, b i g (ix2 0 k) = ∑ d : Fin 256, T i g k d * T i g k d
  real : ∀ i g k d, Spec.Fin' (T i g k d)

variable {w b T} (H : Fits w b T)
include H

/-- A group's half of the block, row by row. -/
theorem half_apply (r : FVec Ideal S512x512 .f32) (g : Fin 2) (p : Fin 512) (d : Fin 256) :
    half r g (ix2 p d) = Spec.half (fun c => r (ix2 p c)) g d := by
  fin_cases g
  · show extractStridedSlice S512x256 ![0, 0] r slices_S512x512_o0_0_S512x256 (ix2 p d) = _
    pointwise
    exact congrArg (fun a => r (ix2 p a)) (Fin.ext (by simp))
  · show extractStridedSlice S512x256 ![0, 256] r slices_S512x512_o0_256_S512x256 (ix2 p d) = _
    pointwise
    exact congrArg (fun a => r (ix2 p a)) (Fin.ext (by simp))

/-- The code of a row of a residual. -/
theorem codeOf_apply (r : FVec Ideal S512x512 .f32) (i : ℕ) (g : Fin 2) (p : Fin 512) :
    codeOf w b r i g (ix1 p) = BitVec.ofNat 32 (Spec.pos (fun c => r (ix2 p c)) (T i) g).val := by
  unfold codeOf
  rw [code_apply]
  congr 3
  funext k
  rw [dist_apply _ _ _ fun k => by rw [H.lengths]; exact Finset.sum_congr rfl fun d _ => by rw [H.table]]
  congr 1
  · funext d; exact half_apply H r g p d
  · funext k d; exact H.table i g k d

/-- The code vectors of a row of a residual. -/
theorem vecOf_apply (r : FVec Ideal S512x512 .f32) (i : ℕ) (p c : Fin 512) :
    vecOf w b r i (ix2 p c) = Spec.vec (fun c => r (ix2 p c)) (T i) c := by
  pointwise [vecOf]
  unfold Spec.vec
  split
  · rw [pick_apply _ _ _ _ _ (codeOf_apply H r i 0 p) fun j => by rw [H.table]; exact H.real _ _ _ _]
    exact H.table _ _ _ _
  · rw [pick_apply _ _ _ _ _ (codeOf_apply H r i 1 p) fun j => by rw [H.table]; exact H.real _ _ _ _]
    exact H.table _ _ _ _

/-- The residual of a row before layer `i`. -/
theorem res_apply (p : Fin 512) : ∀ (i : ℕ) (c : Fin 512), res x w b i (ix2 p c) = Spec.res (fun c => x (ix2 p c)) T i c
  | 0, c => by
    show shapeCast S512x512 x shapeCasts_S512x512_S512x512 (ix2 p c) = _
    pointwise
    rfl
  | i + 1, c => by
    show res x w b i (ix2 p c) - vecOf w b (res x w b i) i (ix2 p c) = _
    rw [res_apply p i c, vecOf_apply H]
    simp only [res_apply p i]
    rfl

/-- The code vectors a row has taken up before layer `i`. -/
theorem acc_apply (p : Fin 512) : ∀ (i : ℕ) (c : Fin 512), acc x w b i (ix2 p c) = Spec.acc (fun c => x (ix2 p c)) T i c
  | 0, c => by
    show broadcast S512x512 (Scalar.ofBits .f32 0x00000000#32) (ix2 p c) = _
    pointwise
    rfl
  | i + 1, c => by
    show acc x w b i (ix2 p c) + vecOf w b (res x w b i) i (ix2 p c) = _
    rw [acc_apply p i c, vecOf_apply H]
    simp only [res_apply x H p i]
    rfl

/-- The squares of a block's residual. -/
theorem sq_apply (i : ℕ) : sq (res x w b (i + 1)) = ∑ p : Fin 512, Spec.sqr (fun c => x (ix2 p c)) T i := by
  pointwise [sq]
  refine Finset.sum_congr rfl fun p _ => ?_
  unfold Spec.sqr
  simp only [res_apply x H p (i + 1)]

end Rows

end Cert.KernelIdeal.Stage

end
-- ==== Proof.KOut.lean ====
/- The arrays the kernel's two launches leave. -/
module

public import proofs.«01_k».proof.Proof.KIdeal
public import Idealize.ShloMosaic.Lib.Pipeline.ValueKit

@[expose] public section

set_option maxRecDepth 16384

noncomputable section

namespace Cert.KernelIdeal.KV

open Cert.KernelIdeal.Gen Cert.KernelIdeal Cert.KernelIdeal.Stage
open Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- Token `512 t + p`. -/
def tok (t : Fin cfg0.N) (p : Fin 512) : Fin 32768 := ⟨512 * t.val + p.val, by have : t.val < 64 := t.isLt; omega⟩

/-- Where each window of the first call lies at a grid step: the tokens. -/
theorem ix0_0 : ∀ t : Fin cfg0.N, win0_0.index t = ![t.val, 0] := by decide +kernel
/-- The tables: always whole. -/
theorem ix0_1 : ∀ t : Fin cfg0.N, win0_1.index t = ![0, 0, 0, 0] := by decide +kernel
/-- The squared lengths: always whole. -/
theorem ix0_2 : ∀ t : Fin cfg0.N, win0_2.index t = ![0, 0] := by decide +kernel
/-- The quantized tokens. -/
theorem ix0_3 : ∀ t : Fin cfg0.N, win0_3.index t = ![t.val, 0] := by decide +kernel
/-- The codes. -/
theorem ix0_4 : ∀ t : Fin cfg0.N, win0_4.index t = ![t.val, 0, 0] := by decide +kernel
/-- The sums of squares: one block for all steps. -/
theorem ix0_5 : ∀ t : Fin cfg0.N, win0_5.index t = ![0, 0] := by decide +kernel

/-- Block `t` of the tokens. -/
theorem rows_apply (t : Fin cfg0.N) (p d : Fin 512) :
    (iblk0 V c 0 t : Vec Ideal S512x512 .f32) (ix2 p d) = (V c main_v1 : Vec Ideal S32768x512 .f32) (ix2 (tok t p) d) := by
  unfold iblk0
  blk_simp
  refine congrArg (V c main_v1) (funext fun a => Fin.ext ?_)
  blk_simp [ix0_0]
  fin_cases a
  · show t.val * 512 + p.val = 512 * t.val + p.val
    omega
  · show 0 * 512 + d.val = d.val
    omega

/-- The tables' block is the tables. -/
theorem tables_eq (t : Fin cfg0.N) : (iblk0 V c 1 t : Vec Ideal S8x2x1024x256 .f32) = V c main_arg1 := by
  blk_ext! [iblk0, ix0_1]

/-- The squared lengths' block is the squared lengths. -/
theorem lengths_eq (t : Fin cfg0.N) : (iblk0 V c 2 t : Vec Ideal S16x1024 .f32) = V c main_v4 := by
  blk_ext! [iblk0, ix0_2]

/-- A table's entry as the kernel loads it. -/
theorem tab_apply (x1 : Vec Ideal S8x2x1024x256 .f32) (i : ℕ) (g : Fin 2) (k : Fin 1024) (d : Fin 256) :
    shapeCast S1024x256 (tab x1 i g) shapeCasts_S1x1x1024x256_S1024x256 (ix2 k d) = x1 (ix4 (Fin.ofNat 8 i) g k d) := by
  pointwise [tab]
/-- A squared length as the kernel loads it. -/
theorem row_apply (x2 : Vec Ideal S16x1024 .f32) (i : ℕ) (g : Fin 2) (k : Fin 1024) :
    row x2 i g (ix2 0 k) = x2 (ix2 ⟨2 * (Fin.ofNat 8 i).val + g.val, by have := (Fin.ofNat 8 i).isLt; omega⟩ k) := by
  pointwise [row]

/-- The tables of a stack, layer by layer. -/
def tabs (cb : Vec Ideal S8x2x1024x256 .f32) (i : ℕ) (g : Fin 2) (k : Fin 1024) (d : Fin 256) : EReal := cb (ix4 (Fin.ofNat 8 i) g k d)

/-- The tables are real, and the squared lengths are theirs. -/
structure Good (cb : Vec Ideal S8x2x1024x256 .f32) (l : Vec Ideal S16x1024 .f32) : Prop where
  real : ∀ i, Spec.Fin' (cb i)
  lengths : ∀ (i : Fin 8) (g : Fin 2) (k : Fin 1024), l (ix2 ⟨2 * i.val + g.val, by omega⟩ k) = ∑ d : Fin 256, cb (ix4 i g k d) * cb (ix4 i g k d)

/-- What a grid step reads of the tables and of their squared lengths. -/
theorem Good.fits {cb : Vec Ideal S8x2x1024x256 .f32} {l : Vec Ideal S16x1024 .f32} (H : Good cb l) : Fits (tab cb) (row l) (tabs cb) where
  table i g k d := tab_apply cb i g k d
  lengths i g k := (row_apply l i g k).trans (H.lengths _ _ _)
  real _ _ _ _ := H.real _

section Strips

variable (f : ℕ → Fin 2 → IVec S512 32)

/-- The stores of given codes, the last layer's first. -/
def stripsOf : ℕ → List (View.Piece (Elt Ideal) S1x16x512 .i32)
  | 0 => []
  | i + 1 => ⟨strip i 1, shapeCast S1x1x512 (f i 1) shapeCasts_S512_S1x1x512⟩ ::
      ⟨strip i 0, shapeCast S1x1x512 (f i 0) shapeCasts_S512_S1x1x512⟩ :: stripsOf i

/-- The stores of the codes, listed layer by layer. -/
theorem strips_eq (x : Vec Ideal S512x512 .f32) (w : ℕ → Fin 2 → Vec Ideal S1x1x1024x256 .f32) (b : ℕ → Fin 2 → Vec Ideal S1x1024 .f32) :
    ∀ n, strips x w b n = stripsOf (fun i g => codeOf w b (res x w b i) i g) n
  | 0 => rfl
  | n + 1 => by rw [strips, stripsOf, strips_eq x w b n]

/-- Given codes, group by group. -/
def codes (y : S1x16x512.Idx) : BitVec 32 := f ((y 1).val / 2) (Fin.ofNat 2 (y 1).val) (ix1 (y 2))

/-- Where a stored row of codes lies. -/
theorem strip_emb (i : ℕ) (hi : i < 8) (g : Fin 2) (p : Fin 512) (h : 2 * i + g.val < 16) :
    (strip i g).emb (ix3 (0 : Fin 1) (0 : Fin 1) p) = ix3 (0 : Fin 1) (⟨2 * i + g.val, h⟩ : Fin 16) p := by
  funext a
  apply Fin.ext
  unfold strip
  rw [ValueKit.rect_emb_unit_val]
  have h8 : i % 8 = i := Nat.mod_eq_of_lt hi
  fin_cases a
  · rfl
  · show 2 * (i % 8) + g.val + 0 = 2 * i + g.val
    omega
  · exact Nat.zero_add _

/-- Each store holds the codes that belong where it lies. -/
theorem stripsOf_val : ∀ n ≤ 8, ∀ p ∈ stripsOf f n, ∀ y, p.2 y = codes f (p.1.emb y)
  | 0, _, p, hp, _ => by simp [stripsOf] at hp
  | n + 1, hn, p, hp, y => by
    rw [stripsOf, List.mem_cons, List.mem_cons] at hp
    have key : ∀ (g : Fin 2) (y : S1x1x512.Idx),
        shapeCast S1x1x512 (f n g) shapeCasts_S512_S1x1x512 y = codes f ((strip n g).emb y) := by
      intro g y
      rw [eq_ix3 y]
      obtain ⟨q, hq⟩ : ∃ q : Fin 512, y 2 = q := ⟨_, rfl⟩
      have e0 : y 0 = (0 : Fin 1) := Subsingleton.elim (α := Fin 1) _ _
      have e1 : y 1 = (0 : Fin 1) := Subsingleton.elim (α := Fin 1) _ _
      rw [hq, e0, e1, strip_emb n (by omega) g q (by omega)]
      have e2 : codes f (ix3 (0 : Fin 1) (⟨2 * n + g.val, by omega⟩ : Fin 16) q) = f n g (ix1 q) := by
        show f ((2 * n + g.val) / 2) (Fin.ofNat 2 (2 * n + g.val)) (ix1 q) = _
        rw [show (2 * n + g.val) / 2 = n by omega, show Fin.ofNat 2 (2 * n + g.val) = g from Fin.ext (by simp [Fin.ofNat]; omega)]
      rw [e2]
      pointwise
    rcases hp with rfl | rfl | hp
    · exact key 1 y
    · exact key 0 y
    · exact stripsOf_val n (by omega) p hp y

/-- Every layer and group has its store. -/
theorem strips_mem (i : ℕ) (g : Fin 2) : ∀ n, i < n → ∃ v, (⟨strip i g, v⟩ : View.Piece (Elt Ideal) S1x16x512 .i32) ∈ stripsOf f n
  | 0, h => absurd h (by omega)
  | n + 1, h => by
    rcases Nat.lt_or_ge i n with h' | h'
    · obtain ⟨v, hv⟩ := strips_mem i g n h'
      exact ⟨v, List.mem_cons_of_mem _ (List.mem_cons_of_mem _ hv)⟩
    · obtain rfl : i = n := by omega
      fin_cases g
      · exact ⟨_, List.mem_cons_of_mem _ List.mem_cons_self⟩
      · exact ⟨_, List.mem_cons_self⟩

/-- The index block: every strip holds its group's codes. -/
theorem strips_canon (y : S1x16x512.Idx) : View.canon (stripsOf f 8) y = codes f y := by
  refine View.canon_apply_of_pieces _ _ (stripsOf_val f 8 le_rfl) y ?_
  have h1 : (y 1).val < 16 := (y 1).isLt
  obtain ⟨v, hv⟩ := strips_mem f ((y 1).val / 2) (Fin.ofNat 2 (y 1).val) 8 (by omega)
  refine ⟨_, hv, ?_⟩
  have h2 : (y 2).val < 512 := (y 2).isLt
  have h0 : (y 0).val < 1 := (y 0).isLt
  have h8 : (y 1).val / 2 % 8 = (y 1).val / 2 := Nat.mod_eq_of_lt (by omega)
  show y ∈ (strip ((y 1).val / 2) (Fin.ofNat 2 (y 1).val)).set
  unfold strip
  rw [Rect.mem_set_unit]
  intro a
  fin_cases a
  · show 0 ≤ (y 0).val ∧ (y 0).val < 0 + 1
    omega
  · show 2 * ((y 1).val / 2 % 8) + (y 1).val % 2 ≤ (y 1).val ∧ (y 1).val < 2 * ((y 1).val / 2 % 8) + (y 1).val % 2 + 1
    omega
  · show 0 ≤ (y 2).val ∧ (y 2).val < 0 + 512
    omega

end Strips

/-! What a point leaves. -/

/-- The quantized block. -/
theorem quant (t : Fin cfg0.N) :
    (outsAt0 V c t.val t.isLt).1 = acc (iblk0 V c 0 t) (tab (V c main_arg1)) (row (V c main_v4)) 8 := by
  by_cases h : t.val % 64 = 0
  · rw [outsAt0_A V c t h]
    dsimp only
    rw [quant_A, tables_eq, lengths_eq]
  · rw [outsAt0_B V c t h]
    dsimp only
    rw [quant_B, tables_eq, lengths_eq]

/-- The index block. -/
theorem marks (t : Fin cfg0.N) (y : S1x16x512.Idx) :
    (outsAt0 V c t.val t.isLt).2.1 y
      = codes (fun i g => codeOf (tab (V c main_arg1)) (row (V c main_v4)) (res (iblk0 V c 0 t) (tab (V c main_arg1)) (row (V c main_v4)) i) i g) y := by
  rw [← strips_canon, ← strips_eq]
  by_cases h : t.val % 64 = 0
  · rw [outsAt0_A V c t h]
    dsimp only
    rw [codes_A, tables_eq, lengths_eq]
  · rw [outsAt0_B V c t h]
    dsimp only
    rw [codes_B, tables_eq, lengths_eq]

/-- What a block adds, layer by layer. -/
theorem sums_apply (x : Vec Ideal S512x512 .f32) (w : ℕ → Fin 2 → Vec Ideal S1x1x1024x256 .f32) (b : ℕ → Fin 2 → Vec Ideal S1x1024 .f32) (i : Fin 8) :
    sums x w b (ix1 i) = Stage.sq (res x w b (i.val + 1)) := by
  unfold sums
  fin_cases i <;> pointwise

/-- The squares of token `n`'s residuals over the layers. -/
def tokSq (n : Fin 32768) (i : ℕ) : EReal :=
  Spec.sqr (fun d => (V c main_v1 : Vec Ideal S32768x512 .f32) (ix2 n d)) (tabs (V c main_arg1)) i

/-- Block `s`'s part of the running sum. -/
def part (s : ℕ) (i : ℕ) : EReal := if h : s < 64 then ∑ p : Fin 512, tokSq V c (tok ⟨s, h⟩ p) i else 0

variable {V c} (H : Good (V c main_arg1) (V c main_v4))
include H

/-- A block's sum of squares, layer by layer. -/
theorem block_sums (t : Fin cfg0.N) (i : Fin 8) :
    sums (iblk0 V c 0 t) (tab (V c main_arg1)) (row (V c main_v4)) (ix1 i) = part V c t.val i.val := by
  rw [sums_apply, sq_apply _ H.fits]
  unfold part
  rw [dif_pos (show t.val < 64 from t.isLt)]
  refine Finset.sum_congr rfl fun p _ => ?_
  unfold tokSq
  congr 1
  funext d
  exact rows_apply V c t p d

/-- The running sums of squares after point `n`. -/
theorem running (i : Fin 8) (l : Fin 128) : ∀ (n : ℕ) (hn : n < cfg0.N),
    (outsAt0 V c n hn).2.2 (ix2 i l) = ∑ s ∈ Finset.range (n + 1), part V c s i.val
  | 0, hn => by
    rw [outsAt0_A V c ⟨0, hn⟩ rfl]
    dsimp only
    rw [sums_A, tables_eq, lengths_eq]
    have e := block_sums H ⟨0, hn⟩ i
    generalize sums (iblk0 V c 0 ⟨0, hn⟩) (tab (V c main_arg1)) (row (V c main_v4)) = v at e ⊢
    pointwise [k0_pay2]
    rw [e]
    simp
  | n + 1, hn => by
    have h : ¬ (n + 1) % 64 = 0 := by have : n + 1 < 64 := hn; omega
    rw [outsAt0_B V c ⟨n + 1, hn⟩ h]
    dsimp only
    rw [sums_B, tables_eq, lengths_eq]
    have e := block_sums H ⟨n + 1, hn⟩ i
    have e' := running i l n (by omega)
    rw [Finset.sum_range_succ, ← e', ← e]
    generalize sums (iblk0 V c 0 ⟨n + 1, hn⟩) (tab (V c main_arg1)) (row (V c main_v4)) = v
    show k0_pay2 v (outsAt0 V c n _).2.2 (ix2 i l) = _
    generalize (outsAt0 V c n _).2.2 = xo
    pointwise [k0_pay2]

/-! The arrays after the launch. -/

/-- Token `n`'s row. -/
def tokRow (V : (c : Dev nD) → (b : Ref sig .tc) → Buf (Elt Ideal) ((c : Thread nD τ).loc b)) (c : Dev nD) (n : Fin 32768) (d : Fin 512) : EReal :=
  (V c main_v1 : Vec Ideal S32768x512 .f32) (ix2 n d)

omit H in
/-- A block's row of the tokens. -/
theorem rows_eq (t : Fin cfg0.N) (p : Fin 512) : (fun d => (iblk0 V c 0 t : Vec Ideal S512x512 .f32) (ix2 p d)) = tokRow V c (tok t p) :=
  funext fun d => rows_apply V c t p d

/-- The quantized tokens. -/
theorem quant_arr : (dat0 V c).arrAt 3 cfg0.N
    = fun j : S32768x512.Idx => Spec.acc (tokRow V c (j 0)) (tabs (V c main_arg1)) 8 (j 1) := by
  refine (dat0 V c).arrAt_eq_of_covers 3 _ (by decide +kernel) fun t hf y => ?_
  blk_simp
  rw [after0_3, quant]
  obtain ⟨p, q, rfl⟩ : ∃ (p q : Fin 512), y = ix2 p q := ⟨y 0, y 1, eq_ix2 y⟩
  rw [acc_apply _ H.fits, rows_eq]
  have e0 : (win0_3.blk t).view.emb (ix2 p q) 0 = tok t p := Fin.ext (by
    blk_simp [ix0_3]
    show t.val * 512 + p.val = 512 * t.val + p.val
    omega)
  have e1 : (win0_3.blk t).view.emb (ix2 p q) 1 = q := Fin.ext (by
    blk_simp [ix0_3])
  rw [e0, e1]

/-- The code of token `p` of block `t`, group `q` of all the layers'. -/
def mark (V : (c : Dev nD) → (b : Ref sig .tc) → Buf (Elt Ideal) ((c : Thread nD τ).loc b)) (c : Dev nD) (t : Fin 64) (q : Fin 16) (p : Fin 512) :
    BitVec 32 :=
  BitVec.ofNat 32 (Spec.pos (Spec.res (tokRow V c (tok t p)) (tabs (V c main_arg1)) (q.val / 2)) (tabs (V c main_arg1) (q.val / 2)) (Fin.ofNat 2 q.val)).val

/-- The codes of the blocks. -/
theorem marks_arr : (dat0 V c).arrAt 4 cfg0.N = fun j : S64x16x512.Idx => mark V c (j 0) (j 1) (j 2) := by
  refine (dat0 V c).arrAt_eq_of_covers 4 _ (by decide +kernel) fun t hf y => ?_
  blk_simp
  rw [after0_4, marks]
  obtain ⟨o, q, p, rfl⟩ : ∃ (o : Fin 1) (q : Fin 16) (p : Fin 512), y = ix3 o q p := ⟨y 0, y 1, y 2, eq_ix3 y⟩
  have e0 : (win0_4.blk t).view.emb (ix3 o q p) 0 = t := Fin.ext (by
    blk_simp [ix0_4])
  have e1 : (win0_4.blk t).view.emb (ix3 o q p) 1 = q := Fin.ext (by
    blk_simp [ix0_4])
  have e2 : (win0_4.blk t).view.emb (ix3 o q p) 2 = p := Fin.ext (by
    blk_simp [ix0_4])
  rw [e0, e1, e2]
  unfold mark
  show codeOf (tab (V c main_arg1)) (row (V c main_v4)) (res (iblk0 V c 0 t) (tab (V c main_arg1)) (row (V c main_v4)) (q.val / 2)) (q.val / 2)
    (Fin.ofNat 2 q.val) (ix1 p) = _
  rw [codeOf_apply H.fits, show (fun d => res (iblk0 V c 0 t) (tab (V c main_arg1)) (row (V c main_v4)) (q.val / 2) (ix2 p d))
    = Spec.res (tokRow V c (tok t p)) (tabs (V c main_arg1)) (q.val / 2) from funext fun d => by rw [res_apply _ H.fits, rows_eq]]

/-- The running sums at the end. -/
theorem sums_arr : (dat0 V c).arrAt 5 cfg0.N
    = fun j : S8x128.Idx => ∑ s ∈ Finset.range 64, part V c s (j 0).val := by
  refine (dat0 V c).arrAt_eq_of_covers 5 _ (by decide +kernel) fun t hf y => ?_
  have ht : t = ⟨63, by decide⟩ := (by decide +kernel : ∀ t : Fin cfg0.N, (cfg0.win 5).flush t = true → t = ⟨63, by decide⟩) t hf
  change _ = (fun i : Fin 8 => ∑ s ∈ Finset.range 64, part V c s i.val) (((cfg0.win 5).blk t).view.emb y 0)
  generalize hg : (fun i : Fin 8 => ∑ s ∈ Finset.range 64, part V c s i.val) = g
  blk_simp
  rw [after0_5]
  obtain ⟨i, l, rfl⟩ : ∃ (i : Fin 8) (l : Fin 128), y = ix2 i l := ⟨y 0, y 1, eq_ix2 y⟩
  have e0 : (win0_5.blk t).view.emb (ix2 i l) 0 = i := Fin.ext (by
    blk_simp [ix0_5])
  rw [e0, ← hg, running H i l, ht]

omit H

/-! The second launch. -/

/-- Where each window of the second call lies at a grid step: the table. -/
theorem ix1_0 : ∀ t : Fin cfg1.N, win1_0.index t = ![t.val, 0, 0] := by decide +kernel
/-- The cross entropy. -/
theorem ix1_1 : ∀ t : Fin cfg1.N, win1_1.index t = ![t.val, 0, 0] := by decide +kernel

/-- The cross entropy of the block's table. -/
theorem entropy_apply (x : Vec Ideal S1x1024x256 .f32) (i : Fin 8) (l : Fin 128) :
    k1_pay1 x (ix3 0 i l) = Spec.entropy fun k d => x (ix3 0 k d) := by
  pointwise [k1_pay1]
  unfold Spec.entropy
  congr 1
  exact Finset.sum_congr rfl fun _ _ => Fin.sum_univ_one _

/-- The cross entropies of the two tables. -/
theorem entropy_arr : (dat1 V c).arrAt 1 cfg1.N
    = fun j : S2x8x128.Idx => Spec.entropy fun k d => (V c main_v7 : Vec Ideal S2x1024x256 .f32) (ix3 (j 0) k d) := by
  refine (dat1 V c).arrAt_eq_of_covers 1 _ (by decide +kernel) fun t hf y => ?_
  blk_simp
  rw [after1_1]
  obtain ⟨o, i, l, rfl⟩ : ∃ (o : Fin 1) (i : Fin 8) (l : Fin 128), y = ix3 o i l := ⟨y 0, y 1, y 2, eq_ix3 y⟩
  have e0 : (win1_1.blk t).view.emb (ix3 o i l) 0 = t := Fin.ext (by
    blk_simp [ix1_1])
  have ex : ∀ (k : Fin 1024) (d : Fin 256), (iblk1 V c 0 t : Vec Ideal S1x1024x256 .f32) (ix3 0 k d) = (V c main_v7 : Vec Ideal S2x1024x256 .f32) (ix3 t k d) := by
    intro k d
    unfold iblk1
    blk_simp
    refine congrArg (V c main_v7) (funext fun a => Fin.ext ?_)
    blk_simp [ix1_0]
    fin_cases a
    · show t.val * 1 + 0 = t.val
      omega
    · show 0 * 1024 + k.val = k.val
      omega
    · show 0 * 256 + d.val = d.val
      omega
  rw [e0]
  simp only [← ex]
  rw [← entropy_apply _ i l]
  have hz : (![0, 0, 0] : Fin 3 → Nat) = fun _ => 0 := funext fun a => by fin_cases a <;> rfl
  have ho : o = 0 := Subsingleton.elim _ _
  unfold out1_1
  rw [View.ld_unit_zero (S := S1x1024x256) hz, View.canon_unit_zero hz, ho]

end Cert.KernelIdeal.KV

end
-- ==== Proof.KFinal.lean ====
/- The kernel's three results, in the arguments. -/
module

public import proofs.«01_k».proof.Proof.KOut

@[expose] public section

set_option maxRecDepth 16384

noncomputable section

namespace Cert.KernelIdeal.KV

open Cert.KernelIdeal.Gen Cert.KernelIdeal Cert.KernelIdeal.Stage
open Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-- The input, and the tables. -/
abbrev xin : Vec Ideal S16x512x2048 .f32 := m ((c : Thread nD τ).loc main_arg0)
abbrev cbs : Vec Ideal S8x2x1024x256 .f32 := m ((c : Thread nD τ).loc main_arg1)

/-- The tokens, one to a row. -/
theorem v1_apply (n : Fin 32768) (d : Fin 512) :
    (V1 m ρ c main_v1 : Vec Ideal S32768x512 .f32) (ix2 n d) = xin m c (ix3 ⟨n.val / 2048, by omega⟩ d ⟨n.val % 2048, by omega⟩) := by
  have e : (V1 m ρ c main_v1 : Vec Ideal S32768x512 .f32) = shapeCast S32768x512 (transpose S16x2048x512 [0, 2, 1] (xin m c)
      transposes_S16x512x2048_S16x2048x512_0_2_1) shapeCasts_S16x2048x512_S32768x512 := by
    show after hostOps0 _ _ = _
    after_results
    rfl
  rw [e]
  generalize xin m c = x
  pointwise

/-- The squared lengths of the codes of a stack of tables. -/
def lens (x : FVec Ideal S8x2x1024x256 .f32) : FVec Ideal S16x1024 .f32 :=
  shapeCast S16x1024 (Host.reduceAdd (mulf x x) (constant S_ .f32 0x00000000#32) reducesTo_S8x2x1024x256_S8x2x1024_d3 h_S_) shapeCasts_S8x2x1024_S16x1024

/-- The squared lengths of the codes. -/
theorem v4_apply (i : Fin 8) (g : Fin 2) (k : Fin 1024) :
    (V1 m ρ c main_v4 : Vec Ideal S16x1024 .f32) (ix2 ⟨2 * i.val + g.val, by omega⟩ k) = ∑ d : Fin 256, cbs m c (ix4 i g k d) * cbs m c (ix4 i g k d) := by
  have e : (V1 m ρ c main_v4 : Vec Ideal S16x1024 .f32) = lens (cbs m c) := by
    show after hostOps0 _ _ = _
    after_results
    rfl
  rw [e]
  generalize cbs m c = x
  pointwise [lens]

/-- The first call reads the tables as they were given. -/
theorem v1_arg1 : V1 m ρ c main_arg1 = cbs m c := W1_args m ρ c main_arg1 (by decide +kernel)

/-- The first layer's tables. -/
theorem v7_apply (g : Fin 2) (k : Fin 1024) (d : Fin 256) :
    (V3 m ρ c main_v7 : Vec Ideal S2x1024x256 .f32) (ix3 g k d) = cbs m c (ix4 0 g k d) := by
  have ea : W2 m ρ c (Proc.devRef .tc main_arg1) = cbs m c := (W2_of m ρ c main_arg1 (by decide +kernel)).trans (v1_arg1 m ρ c)
  have e : (V3 m ρ c main_v7 : Vec Ideal S2x1024x256 .f32) = shapeCast S2x1024x256 (extractStridedSlice S1x2x1024x256 ![0, 0, 0, 0]
      (W2 m ρ c (Proc.devRef .tc main_arg1)) slices_S8x2x1024x256_S1x2x1024x256_0_0_0_0) shapeCasts_S1x2x1024x256_S2x1024x256 := by
    show after hostOps1 _ _ = _
    after_results
    rfl
  rw [e, ea]
  generalize cbs m c = x
  pointwise

/-- The first call is entered with real tables and their squared lengths. -/
theorem good (hf : ∀ i, Spec.Fin' (cbs m c i)) : Good (V1 m ρ c main_arg1) (V1 m ρ c main_v4) := by
  rw [v1_arg1]
  exact ⟨hf, v4_apply m ρ c⟩

/-- Token `n` of the input, and the tables, layer by layer. -/
def token (x : Vec Ideal S16x512x2048 .f32) (n : Fin 32768) (d : Fin 512) : EReal := x (ix3 ⟨n.val / 2048, by omega⟩ d ⟨n.val % 2048, by omega⟩)

/-- A row of the first call's input is a token. -/
theorem tokRow_eq (n : Fin 32768) : tokRow (V1 m ρ) c n = token (xin m c) n := funext fun d => v1_apply m ρ c n d

/-- What the second call and the stretch before it do not write is as the first call left it. -/
theorem W4_keep (r : Ref sig .tc) (h1 : ∀ w : Fin cfg1.W, Pipeline.arrRef spec1 w = r → (cfg1.win w).isOut = false) (h2 : r ∉ hostOps1_W) :
    W4 m ρ c (Proc.devRef .tc r) = W2 m ρ c (Proc.devRef .tc r) := (W4_of m ρ c r h1).trans (W3_of m ρ c r h2)

/-- The first result: every token's code vectors added up. -/
theorem quant_out (hf : ∀ i, Spec.Fin' (cbs m c i)) (b : Fin 16) (d : Fin 512) (t : Fin 2048) :
    (W5 m ρ c (Proc.devRef .tc main_v10) : Vec Ideal S16x512x2048 .f32) (ix3 b d t)
      = Spec.acc (token (xin m c) ⟨b.val * 2048 + t.val, by omega⟩) (tabs (cbs m c)) 8 d := by
  have e : (W5 m ρ c (Proc.devRef .tc main_v10) : Vec Ideal S16x512x2048 .f32) = transpose S16x512x2048 [0, 2, 1]
      (shapeCast S16x2048x512 (W4 m ρ c (Proc.devRef .tc main_v5_0) : Vec Ideal S32768x512 .f32) shapeCasts_S32768x512_S16x2048x512)
      transposes_S16x2048x512_S16x512x2048_0_2_1 := by
    show after hostOps2 _ _ = _
    after_results
    rfl
  have e1 : W4 m ρ c (Proc.devRef .tc main_v5_0) = _ :=
    (W4_keep m ρ c main_v5_0 (by decide +kernel) (by decide +kernel)).trans ((W2_arr m ρ c 3).trans (quant_arr (good m ρ c hf)))
  rw [e, e1, v1_arg1]
  pointwise
  rw [tokRow_eq]

/-- The third result: every token's codes. -/
theorem marks_out (hf : ∀ i, Spec.Fin' (cbs m c i)) (q : Fin 16) (n : Fin 32768) :
    (W5 m ρ c (Proc.devRef .tc main_v12) : Vec Ideal S16x32768 .i32) (ix2 q n)
      = BitVec.ofNat 32 (Spec.pos (Spec.res (token (xin m c) n) (tabs (cbs m c)) (q.val / 2)) (tabs (cbs m c) (q.val / 2)) (Fin.ofNat 2 q.val)).val := by
  have e : (W5 m ρ c (Proc.devRef .tc main_v12) : Vec Ideal S16x32768 .i32) = shapeCast S16x32768 (transpose S16x64x512 [1, 0, 2]
      (W4 m ρ c (Proc.devRef .tc main_v5_1) : Vec Ideal S64x16x512 .i32) transposes_S64x16x512_S16x64x512_1_0_2) shapeCasts_S16x64x512_S16x32768 := by
    show after hostOps2 _ _ = _
    after_results
    rfl
  have e1 : W4 m ρ c (Proc.devRef .tc main_v5_1) = _ :=
    (W4_keep m ρ c main_v5_1 (by decide +kernel) (by decide +kernel)).trans ((W2_arr m ρ c 4).trans (marks_arr (good m ρ c hf)))
  rw [e, e1]
  pointwise
  unfold mark
  rw [v1_arg1, tokRow_eq]
  exact congrArg (fun n => BitVec.ofNat 32 (Spec.pos (Spec.res (token (xin m c) n) (tabs (cbs m c)) (q.val / 2)) (tabs (cbs m c) (q.val / 2))
    (Fin.ofNat 2 q.val)).val) (show tok ⟨n.val / 512, by show _ < 64; omega⟩ ⟨n.val % 512, by omega⟩ = n from Fin.ext (Nat.div_add_mod n.val 512))

/-- The mean of the squares, layer by layer, of the running sums. -/
def means (s : FVec Ideal S8x128 .f32) : FVec Ideal S8 .f32 :=
  Host.divf (shapeCast S8 (extractStridedSlice S8x1 ![0, 0] s slices_S8x128_S8x1_0_0) shapeCasts_S8x1_S8)
    (broadcastInDim S8 ![] bcast_S_S8 (constant S_ .f32 0x4B800000#32))

/-- The two entropies. -/
def two (e : FVec Ideal S2x8x128 .f32) : FVec Ideal S2 .f32 :=
  shapeCast S2 (extractStridedSlice S2x1x1 ![0, 0, 0] e slices_S2x8x128_S2x1x1_0_0_0) shapeCasts_S2x1x1_S2

/-- The first of two. -/
def fst (e : FVec Ideal S2 .f32) : FVec Ideal S_ .f32 := shapeCast S_ (extractStridedSlice S1 ![0] e slices_S2_S1_0) shapeCasts_S1_S_

/-- The second of two. -/
def snd (e : FVec Ideal S2 .f32) : FVec Ideal S_ .f32 := shapeCast S_ (extractStridedSlice S1 ![1] e slices_S2_S1_1) shapeCasts_S1_S_

/-- The mean of the entropies at the first layer, zero at the others. -/
def ents (e : FVec Ideal S2x8x128 .f32) : FVec Ideal S8 .f32 :=
  concatenate S8 0 [⟨S1, broadcastInDim S1 ![] bcast_S_S1 (mulf (addf (fst (two e)) (snd (two e))) (constant S_ .f32 0x3F000000#32))⟩,
    ⟨S7, broadcastInDim S7 ![] bcast_S_S7 (constant S_ .f32 0x00000000#32)⟩] concatenates_S1_S7_S8_d0

/-- The layers' losses. -/
def losses (a b : FVec Ideal S8 .f32) : FVec Ideal S8 .f32 :=
  addf (addf (mulf (broadcastInDim S8 ![] bcast_S_S8 (constant S_ .f32 0x3DCCCCCD#32)) a)
      (mulf (broadcastInDim S8 ![] bcast_S_S8 (constant S_ .f32 0x3F800000#32)) b))
    (mulf (broadcastInDim S8 ![] bcast_S_S8 (constant S_ .f32 0x3E800000#32)) b)

/-- The mean over the layers. -/
def avg (a : FVec Ideal S8 .f32) : FVec Ideal S_ .f32 :=
  Host.divf (Host.reduceAdd a (constant S_ .f32 0x00000000#32) reducesTo_S8_S_d0 h_S_) (constant S_ .f32 0x41000000#32)

/-- The mean squared error of a layer. -/
theorem means_apply (s : FVec Ideal S8x128 .f32) (i : Fin 8) : means s (ix1 i) = Ideal.div (s (ix2 i 0)) (Ideal.ofBits FTy.f32 1266679808#32) := by
  pointwise [means]

/-- A group's cross entropy, read from its block. -/
theorem two_apply (e : FVec Ideal S2x8x128 .f32) (g : Fin 2) : two e (ix1 g) = e (ix3 g 0 0) := by
  pointwise [two]

/-- The first group's. -/
theorem fst_apply (e : FVec Ideal S2 .f32) : fst e ix0 = e (ix1 0) := by
  pointwise [fst]

/-- The second group's. -/
theorem snd_apply (e : FVec Ideal S2 .f32) : snd e ix0 = e (ix1 1) := by
  pointwise [snd]

/-- The cross entropies of the layers: zero after the first. -/
theorem ents_apply (e : FVec Ideal S2x8x128 .f32) (i : Fin 8) :
    ents e (ix1 i) = if i.val < 1 then (e (ix3 0 0 0) + e (ix3 1 0 0)) * Ideal.ofBits FTy.f32 1056964608#32 else 0 := by
  rw [← two_apply e 0, ← two_apply e 1, ← fst_apply (two e), ← snd_apply (two e)]
  unfold ents
  generalize fst (two e) = a
  generalize snd (two e) = b
  pointwise
  by_cases h : i.val < 1
  · rw [dif_pos h, if_pos h]
  · rw [dif_neg h, if_neg h]

/-- The mean of the layers' losses. -/
theorem avg_apply (a b : FVec Ideal S8 .f32) : avg (losses a b) ix0 = Ideal.div (∑ i : Fin 8,
    (Ideal.ofBits FTy.f32 1036831949#32 * a (ix1 i) + b (ix1 i) + Ideal.ofBits FTy.f32 1048576000#32 * b (ix1 i))) (Ideal.ofBits FTy.f32 1090519040#32) := by
  pointwise [avg, losses]

/-- The second result, in the arrays of the two launches. -/
theorem loss_read : (W5 m ρ c (Proc.devRef .tc main_v37) : FVec Ideal S_ .f32)
    = avg (losses (ents (W4 m ρ c (Proc.devRef .tc main_v8))) (means (W4 m ρ c (Proc.devRef .tc main_v5_2)))) := by
  show after hostOps2 _ _ = _
  after_results
  rfl

/-- The blocks' parts add up over the tokens. -/
theorem part_sum (i : ℕ) : ∑ s ∈ Finset.range 64, part (V1 m ρ) c s i = ∑ n : Fin 32768, Spec.sqr (token (xin m c) n) (tabs (cbs m c)) i := by
  have hp : ∀ s : Fin 64, part (V1 m ρ) c s.val i = ∑ p : Fin 512, Spec.sqr (token (xin m c) (tok s p)) (tabs (cbs m c)) i := fun s => by
    unfold part
    rw [dif_pos s.isLt]
    refine Finset.sum_congr rfl fun p _ => ?_
    unfold tokSq
    rw [v1_arg1]
    exact congrArg (fun x => Spec.sqr x (tabs (cbs m c)) i) (tokRow_eq m ρ c (tok s p))
  rw [Finset.sum_range, Finset.sum_congr rfl fun s _ => hp s, ← Fintype.sum_prod_type']
  refine Fintype.sum_equiv (finProdFinEquiv (m := 64) (n := 512)) _ (fun n : Fin 32768 => Spec.sqr (token (xin m c) n) (tabs (cbs m c)) i) fun y => ?_
  exact congrArg (fun n => Spec.sqr (token (xin m c) n) (tabs (cbs m c)) i) (Fin.ext (Nat.add_comm _ _))

/-- The second result: the mean of the layers' losses. -/
theorem loss_out (hf : ∀ i, Spec.Fin' (cbs m c i)) :
    (W5 m ρ c (Proc.devRef .tc main_v37) : FVec Ideal S_ .f32) ix0
      = Ideal.div (∑ i : Fin 8, (Ideal.ofBits FTy.f32 1036831949#32
            * (if i.val < 1 then (Spec.entropy (tabs (cbs m c) 0 0) + Spec.entropy (tabs (cbs m c) 0 1)) * Ideal.ofBits FTy.f32 1056964608#32 else 0)
          + Ideal.div (∑ n : Fin 32768, Spec.sqr (token (xin m c) n) (tabs (cbs m c)) i.val) (Ideal.ofBits FTy.f32 1266679808#32)
          + Ideal.ofBits FTy.f32 1048576000#32
            * Ideal.div (∑ n : Fin 32768, Spec.sqr (token (xin m c) n) (tabs (cbs m c)) i.val) (Ideal.ofBits FTy.f32 1266679808#32)))
        (Ideal.ofBits FTy.f32 1090519040#32) := by
  have es : W4 m ρ c (Proc.devRef .tc main_v5_2) = _ :=
    (W4_keep m ρ c main_v5_2 (by decide +kernel) (by decide +kernel)).trans ((W2_arr m ρ c 5).trans (sums_arr (good m ρ c hf)))
  have ee : W4 m ρ c (Proc.devRef .tc main_v8) = _ := (W4_arr m ρ c 1).trans entropy_arr
  have ev : ∀ g : Fin 2, (W4 m ρ c (Proc.devRef .tc main_v8) : FVec Ideal S2x8x128 .f32) (ix3 g 0 0) = Spec.entropy (tabs (cbs m c) 0 g) := fun g => by
    rw [ee]
    exact congrArg Spec.entropy (funext fun k => funext fun d => v7_apply m ρ c g k d)
  rw [loss_read, avg_apply]
  refine congrArg (Ideal.div · _) (Finset.sum_congr rfl fun i _ => ?_)
  rw [ents_apply, means_apply, ev, ev, es]
  dsimp only
  rw [part_sum, ix2_0]

end Cert.KernelIdeal.KV

end
-- ==== Proof.RefVal.lean ====
/- One trip of the reference's loop over the layers, as functions of the values it carries. -/
module

public import proofs.«01_k».proof.Proof.RefFrame
public import Idealize.ShloMosaic.Lib.Tactic

@[expose] public section

set_option maxRecDepth 16384

noncomputable section

namespace Cert.ReferenceIdeal.Layer

open Idealize.ShloMosaic Cert.ReferenceIdeal Cert.ReferenceIdeal.Gen Cert.ReferenceIdeal.Fold
open Idealize.ShloMosaic.StableHlo

variable {F : FTy → Type} [FloatOps F]

/-- The contents of a buffer of `s` holding elements `e`. -/
local notation "Arr " s:max e:max => BufTy.Contents (Elt F) (BufTy.mk s e)

/-- The layer's two tables. -/
def tables (cb : Arr S8x2x1024x256 .f32) (k : Arr S_ .i32) : Arr S2x1024x256 .f32 :=
  shapeCast S2x1024x256 (Host.dynamicSlice S1x2x1024x256 cb
    (fun a => ((![k, constantI S_ 32 0#32, constantI S_ 32 0#32, constantI S_ 32 0#32] : Fin 4 → Arr S_ .i32) a (Shape.Idx.first h_S_)).toInt)
    sliceFits_S8x2x1024x256_S1x2x1024x256) shapeCasts_S1x2x1024x256_S2x1024x256

/-- Group `g`'s table of the two. -/
def table (t : Arr S2x1024x256 .f32) : Fin 2 → Arr S1024x256 .f32
  | 0 => shapeCast S1024x256 (extractStridedSlice S1x1024x256 ![0, 0, 0] t slices_S2x1024x256_S1x1024x256_0_0_0) shapeCasts_S1x1024x256_S1024x256
  | 1 => shapeCast S1024x256 (extractStridedSlice S1x1024x256 ![1, 0, 0] t slices_S2x1024x256_S1x1024x256_1_0_0) shapeCasts_S1x1024x256_S1024x256

/-- The tokens of a residual, one to a row. -/
def flat (r : Arr S16x512x2048 .f32) : Arr S32768x512 .f32 :=
  shapeCast S32768x512 (transpose S16x2048x512 [0, 2, 1] r transposes_S16x512x2048_S16x2048x512_0_2_1) shapeCasts_S16x2048x512_S32768x512

/-- Group `g`'s columns of the tokens. -/
def cols (x : Arr S32768x512 .f32) : Fin 2 → Arr S32768x256 .f32
  | 0 => extractStridedSlice S32768x256 ![0, 0] x slices_S32768x512_S32768x256_0_0
  | 1 => extractStridedSlice S32768x256 ![0, 256] x slices_S32768x512_S32768x256_0_256

/-- The squared distances of the tokens to the codes. -/
def dist (x : Arr S32768x256 .f32) (w : Arr S1024x256 .f32) : Arr S32768x1024 .f32 :=
  subf (addf
      (broadcastInDim S32768x1024 ![0, 1] bcast_S32768x1_S32768x1024_0_1 (broadcastInDim S32768x1 ![0] bcast_S32768_S32768x1_0
        (Host.reduceAdd (mulf x x) (constant S_ .f32 0x00000000#32) reducesTo_S32768x256_S32768_d1 h_S_)))
      (broadcastInDim S32768x1024 ![0, 1] bcast_S1x1024_S32768x1024_0_1 (broadcastInDim S1x1024 ![1] bcast_S1024_S1x1024_1
        (Host.reduceAdd (mulf w w) (constant S_ .f32 0x00000000#32) reducesTo_S1024x256_S1024_d1 h_S_))))
    (mulf (broadcastInDim S32768x1024 ![] bcast_S_S32768x1024 (constant S_ .f32 0x40000000#32))
      (Host.dotGeneral dot_S32768x256_S256x1024_S32768x1024_1_0_0_1_n_n none x (transpose S256x1024 [1, 0] w transposes_S1024x256_S256x1024_1_0)))

/-- Each token's nearest code. -/
def code (d : Arr S32768x1024 .f32) : Arr S32768 .i32 := fun j =>
  (Host.argReduce reducer_argmin_f32_i32 d (iotaInDim S32768x1024 32 1) (constant S_ .f32 0x7F800000#32) (constantI S_ 32 0#32)
    reducesTo_S32768x1024_S32768_d1 h_S_ j).2

/-- A code as an index of the table, a negative one counted from the end. -/
def wrap (k : Arr S32768 .i32) : Arr S32768x1 .i32 :=
  broadcastInDim S32768x1 ![0] bcast_S32768_S32768x1_0
    (select (cmpi .slt k (broadcastInDim S32768 ![] bcast_S_S32768 (constantI S_ 32 0#32)))
      (addi k (broadcastInDim S32768 ![] bcast_S_S32768 (constantI S_ 32 1024#32))) k)

/-- The codes' vectors. -/
def pick (w : Arr S1024x256 .f32) (k : Arr S32768 .i32) : Arr S32768x256 .f32 :=
  select (broadcastInDim S32768x256 ![0] bcast_S32768_S32768x256_0
      (Host.reduce IntOp.andi (andi (cmpi .sge (wrap (F := F) k) (broadcastInDim S32768x1 ![] bcast_S_S32768x1 (constantI S_ 32 0#32)))
          (cmpi .sle (wrap (F := F) k) (broadcastInDim S32768x1 ![0, 1] bcast_S1x1_S32768x1_0_1 (broadcastInDim S1x1 ![1] bcast_S1_S1x1_1 (constantI S1 32 1023#32)))))
        (constantI S_ 1 1#1) reducesTo_S32768x1_S32768_d1 h_S_))
    (Host.gather gather_S1024x256_S32768x1_S32768x256_1_0_n_n_0_1_1256 w (wrap (F := F) k))
    (broadcastInDim S32768x256 ![] bcast_S_S32768x256 (constant S_ .f32 0x7FC00000#32))

/-- The codes' inner products among themselves, sharpened. -/
def logits (w : Arr S1024x256 .f32) : Arr S1024x1024 .f32 :=
  mulf (Host.dotGeneral dot_S1024x256_S256x1024_S1024x1024_1_0_0_1_n_n none w (transpose S256x1024 [1, 0] w transposes_S1024x256_S256x1024_1_0))
    (broadcastInDim S1024x1024 ![] bcast_S_S1024x1024 (constant S_ .f32 0x40400000#32))

/-- Each row's greatest entry. -/
def peak (l : Arr S1024x1024 .f32) : Arr S1024 .f32 :=
  Host.reduce FloatOps.maximumf l (constant S_ .f32 0xFF800000#32) reducesTo_S1024x1024_S1024_d1 h_S_

/-- Each row's logarithm of the sum of the exponentials. -/
def lse (l : Arr S1024x1024 .f32) : Arr S1024 .f32 :=
  addf (Host.log (Host.reduceAdd (Host.exp (subf l (broadcastInDim S1024x1024 ![0, 1] bcast_S1024x1_S1024x1024_0_1
      (broadcastInDim S1024x1 ![0] bcast_S1024_S1024x1_0 (peak l))))) (constant S_ .f32 0x00000000#32) reducesTo_S1024x1024_S1024_d1 h_S_)) (peak l)

/-- The labels, as the gather's indices. -/
def label (i : Arr S1024 .i32) : Arr S1024x1 .i32 :=
  broadcastInDim S1024x1 ![0] bcast_S1024_S1024x1_0
    (select (cmpi .slt i (broadcastInDim S1024 ![] bcast_S_S1024 (constantI S_ 32 0#32)))
      (addi i (broadcastInDim S1024 ![] bcast_S_S1024 (constantI S_ 32 1024#32))) i)

/-- The mean of what the logarithms exceed the labels' logits by. -/
def gap (i : Arr S1024 .i32) (s : Arr S1024 .f32) (l : Arr S1024x1024 .f32) : Arr S_ .f32 :=
  Host.divf (Host.reduceAdd (subf s (Host.gather gather_S1024x1024_S1024x2_S1024_n_01_n_n_01_1_11 l
      (concatenate S1024x2 1 [⟨S1024x1, label (F := F) i⟩, ⟨S1024x1, label (F := F) i⟩] concatenates_S1024x1_S1024x1_S1024x2_d1)))
    (constant S_ .f32 0x00000000#32) reducesTo_S1024_S_d0 h_S_) (constant S_ .f32 0x44800000#32)

/-- The cross entropy of a table, each code its own label. -/
def entropy (w : Arr S1024x256 .f32) : Arr S_ .f32 :=
  gap (iotaInDim S1024 32 0) (lse (logits w)) (logits w)

/-- One at the first layer, zero after it. -/
def first (i : Arr S_ .i32) : Arr S_ .f32 :=
  select (cmpi .eq i (constantI S_ 32 0#32)) (constant S_ .f32 0x3F800000#32) (constant S_ .f32 0x00000000#32)

/-- The code vectors of two groups side by side, in the input's layout. -/
def join (z z' : Arr S32768x256 .f32) : Arr S16x512x2048 .f32 :=
  transpose S16x512x2048 [0, 2, 1] (shapeCast S16x2048x512
    (concatenate S32768x512 1 [⟨S32768x256, z⟩, ⟨S32768x256, z'⟩] concatenates_S32768x256_S32768x256_S32768x512_d1)
    shapeCasts_S32768x512_S16x2048x512) transposes_S16x2048x512_S16x512x2048_0_2_1

/-- The straight-through estimate. -/
def through (r q : Arr S16x512x2048 .f32) : Arr S16x512x2048 .f32 := addf r (subf q r)

/-- The mean squared distance of the residual to its code vectors. -/
def msd (r q : Arr S16x512x2048 .f32) : Arr S_ .f32 :=
  Host.divf (Host.reduceAdd (mulf (subf q r) (subf q r)) (constant S_ .f32 0x00000000#32) reducesTo_S16x512x2048_S_d0_1_2 h_S_)
    (constant S_ .f32 0x4B800000#32)

/-- A layer's loss, of its two entropies, its residual and its code vectors. -/
def loss (e e' : Arr S_ .f32) (r q : Arr S16x512x2048 .f32) : Arr S_ .f32 :=
  addf (addf (mulf (constant S_ .f32 0x3DCCCCCD#32) (Host.divf (Host.reduceAdd
      (concatenate S2 0 [⟨S1, broadcastInDim S1 ![] bcast_S_S1 e⟩, ⟨S1, broadcastInDim S1 ![] bcast_S_S1 e'⟩] concatenates_S1_S1_S2_d0)
      (constant S_ .f32 0x00000000#32) reducesTo_S2_S_d0 h_S_) (constant S_ .f32 0x40000000#32)))
    (mulf (constant S_ .f32 0x3F800000#32) (msd r q))) (mulf (constant S_ .f32 0x3E800000#32) (msd r q))

/-- The layer's number. -/
def number (v : Arr S8 .i32) (k : Arr S_ .i32) : Arr S_ .i32 :=
  shapeCast S_ (Host.dynamicSlice S1 v (fun a => ((![k] : Fin 1 → Arr S_ .i32) a (Shape.Idx.first h_S_)).toInt) sliceFits_S8_S1) shapeCasts_S1_S_

/-- The codes of two groups, one above the other. -/
def stack (k k' : Arr S32768 .i32) : Arr S2x32768 .i32 :=
  concatenate S2x32768 0 [⟨S1x32768, broadcastInDim S1x32768 ![1] bcast_S32768_S1x32768_1 k⟩,
    ⟨S1x32768, broadcastInDim S1x32768 ![1] bcast_S32768_S1x32768_1 k'⟩] concatenates_S1x32768_S1x32768_S2x32768_d0

/-- The losses, layer `k`'s set. -/
def setLoss (v : Arr S8 .f32) (l : Arr S_ .f32) (k : Arr S_ .i32) : Arr S8 .f32 :=
  Host.dynamicUpdateSlice v (broadcastInDim S1 ![] bcast_S_S1 l) (fun a => ((![k] : Fin 1 → Arr S_ .i32) a (Shape.Idx.first h_S_)).toInt) updateFits_S8_S1

/-- The codes, layer `k`'s set. -/
def setCodes (v : Arr S8x2x32768 .i32) (u : Arr S2x32768 .i32) (k : Arr S_ .i32) : Arr S8x2x32768 .i32 :=
  Host.dynamicUpdateSlice v (broadcastInDim S1x2x32768 ![1, 2] bcast_S2x32768_S1x2x32768_1_2 u)
    (fun a => ((![k, constantI S_ 32 0#32, constantI S_ 32 0#32] : Fin 3 → Arr S_ .i32) a (Shape.Idx.first h_S_)).toInt) updateFits_S8x2x32768_S1x2x32768

end Cert.ReferenceIdeal.Layer

end
-- ==== Proof.RefTrip.lean ====
/- What each stretch of one trip of the reference's loop leaves, and the trip as a whole. -/
module

public import proofs.«01_k».proof.Proof.RefVal

@[expose] public section

set_option maxRecDepth 100000
set_option maxHeartbeats 1000000

noncomputable section

namespace Cert.ReferenceIdeal.Layer

open Idealize.ShloMosaic Cert.ReferenceIdeal Cert.ReferenceIdeal.Gen Cert.ReferenceIdeal.Fold
open Idealize.ShloMosaic.StableHlo

variable {F : FTy → Type} [FloatOps F]

/-- What a trip's `k`-th stretch writes. -/
abbrev stW (k : ℕ) : List (Ref sig .tc) :=
  [while0Ops0_W, while0Ops0_1_W, while0Ops0_2_W, while0Ops0_3_W, while0Ops0_4_W, while0Ops0_5_W, while0Ops0_6_W, while0Ops0_7_W,
    while0Ops0_8_W, while0Ops0_9_W, while0Ops0_10_W, while0Ops0_11_W, while0Ops0_12_W, while0Ops0_13_W, while0Ops0_14_W, while0Ops0_15_W].getD k []

/-- A trip's `k`-th stretch. -/
def st (k : ℕ) (V : Valuation τ sig (Elt F)) : Valuation τ sig (Elt F) := after (bodyI.getD k []) V

variable (V : Valuation τ sig (Elt F))

/-- A trip is its stretches in order. -/
theorem trip_eq : afterL bodyI V = st 15 (st 14 (st 13 (st 12 (st 11 (st 10 (st 9 (st 8 (st 7 (st 6 (st 5 (st 4 (st 3 (st 2 (st 1 (st 0 V))))))))))))))) := rfl

/-- A stretch keeps what it does not write. -/
theorem keep (k : ℕ) (b : Ref sig .tc) (h : b ∉ stW k) : st k V (Proc.devRef .tc b) = V (Proc.devRef .tc b) := by
  unfold st
  match k, h with
  | 0, h => exact after_of_writes_sub _ _ while0Ops0_writes h
  | 1, h => exact after_of_writes_sub _ _ while0Ops0_1_writes h
  | 2, h => exact after_of_writes_sub _ _ while0Ops0_2_writes h
  | 3, h => exact after_of_writes_sub _ _ while0Ops0_3_writes h
  | 4, h => exact after_of_writes_sub _ _ while0Ops0_4_writes h
  | 5, h => exact after_of_writes_sub _ _ while0Ops0_5_writes h
  | 6, h => exact after_of_writes_sub _ _ while0Ops0_6_writes h
  | 7, h => exact after_of_writes_sub _ _ while0Ops0_7_writes h
  | 8, h => exact after_of_writes_sub _ _ while0Ops0_8_writes h
  | 9, h => exact after_of_writes_sub _ _ while0Ops0_9_writes h
  | 10, h => exact after_of_writes_sub _ _ while0Ops0_10_writes h
  | 11, h => exact after_of_writes_sub _ _ while0Ops0_11_writes h
  | 12, h => exact after_of_writes_sub _ _ while0Ops0_12_writes h
  | 13, h => exact after_of_writes_sub _ _ while0Ops0_13_writes h
  | 14, h => exact after_of_writes_sub _ _ while0Ops0_14_writes h
  | 15, h => exact after_of_writes_sub _ _ while0Ops0_15_writes h
  | n + 16, h => rfl

/-- A list of operations cut in two. -/
theorem cut (n : ℕ) (L : List (HloOp τ sig (Elt F))) : ∀ V : Valuation τ sig (Elt F), after L V = after (L.drop n) (after (L.take n) V) := by
  induction n generalizing L with
  | zero => intro V; rfl
  | succ n ih => cases L with
    | nil => intro V; rfl
    | cons op L => intro V; exact ih L _

/-! The layer's number and tables. -/

/-- The layer's number. -/
theorem s0 : st 0 V (Proc.devRef .tc main_while0b_v8) = number (V (Proc.devRef .tc main_v4_0)) (V (Proc.devRef .tc main_v4_2)) := by
  show after while0Ops0 V _ = _
  after_results_entrywise []

/-- The layer's tables. -/
theorem s1 : st 1 V (Proc.devRef .tc main_while0b_v9) = tables (V (Proc.devRef .tc main_v4_1)) (V (Proc.devRef .tc main_v4_2)) := by
  show after while0Ops0_1 V _ = _
  after_results_entrywise []

/-! The first group's distances, codes and code vectors. -/

/-- The residual as rows of tokens. -/
theorem s2x : st 2 V (Proc.devRef .tc main_while0b_v11) = flat (V (Proc.devRef .tc main_v4_4)) := by
  show after while0Ops0_2 V _ = _
  after_results
  rfl

/-- The first group's table. -/
theorem s2w : st 2 V (Proc.devRef .tc main_while0b_v14) = table (V (Proc.devRef .tc main_while0b_v9)) 0 := by
  show after while0Ops0_2 V _ = _
  after_results
  rfl

/-- The first group's distances. -/
theorem s2 : st 2 V (Proc.devRef .tc main_while0b_v28) = dist (cols (flat (V (Proc.devRef .tc main_v4_4))) 0) (table (V (Proc.devRef .tc main_while0b_v9)) 0) := by
  show after while0Ops0_2 V _ = _
  after_results
  rfl

/-- The first group's codes. -/
theorem s3 : st 3 V (Proc.devRef .tc main_while0b_v29) = code (V (Proc.devRef .tc main_while0b_v28)) := by
  show after while0Ops0_3 V _ = _
  after_results
  rfl

/-- The first group's chosen rows. -/
theorem s4 : st 4 V (Proc.devRef .tc main_while0b_v30) = pick (V (Proc.devRef .tc main_while0b_v14)) (V (Proc.devRef .tc main_while0b_v29)) := by
  show after while0Ops0_4 V _ = _
  after_results
  rfl

/-- The cross entropy: the logits, their peaks, the logarithms, the mean. -/
theorem s5 : st 5 V (Proc.devRef .tc main_while0b_v60) = entropy (V (Proc.devRef .tc main_while0b_v14)) := by
  have e1 : ∀ V : Valuation τ sig (Elt F), after (while0Ops0_5.take 5) V (Proc.devRef .tc main_while0b_v34) = logits (V (Proc.devRef .tc main_while0b_v14)) := by
    intro V
    simp only [List.take]
    after_results
    rfl
  have e2 : ∀ V : Valuation τ sig (Elt F), after ((while0Ops0_5.drop 5).take 11) V (Proc.devRef .tc main_while0b_v43) = lse (V (Proc.devRef .tc main_while0b_v34))
      ∧ after ((while0Ops0_5.drop 5).take 11) V (Proc.devRef .tc main_while0b_v35) = iotaInDim S1024 32 0
      ∧ after ((while0Ops0_5.drop 5).take 11) V (Proc.devRef .tc main_while0b_v34) = (V (Proc.devRef .tc main_while0b_v34)) := by
    intro V
    simp only [List.take, List.drop]
    refine ⟨?_, ?_, ?_⟩
    · after_results
      rfl
    all_goals after_results
  have e3 : ∀ V : Valuation τ sig (Elt F), after ((while0Ops0_5.drop 5).drop 11) V (Proc.devRef .tc main_while0b_v60) = gap (V (Proc.devRef .tc main_while0b_v35)) (V (Proc.devRef .tc main_while0b_v43)) (V (Proc.devRef .tc main_while0b_v34)) := by
    intro V
    simp only [List.drop]
    after_results
    rfl
  show after while0Ops0_5 V _ = _
  rw [cut 5, cut 11 (while0Ops0_5.drop 5), e3, (e2 _).1, (e2 _).2.1, (e2 _).2.2, e1]
  rfl

/-- Whether the layer is the first. -/
theorem s5c : st 5 V (Proc.devRef .tc main_while0b_v61) = cmpi .eq (V (Proc.devRef .tc main_while0b_v8)) (constantI S_ 32 0#32) := by
  show after while0Ops0_5 V _ = _
  after_results

/-- The weight in the first layer. -/
theorem s5a : st 5 V (Proc.devRef .tc main_while0b_cst_23) = constant S_ .f32 0x3F800000#32 := by
  show after while0Ops0_5 V _ = _
  after_results

/-- The weight after it. -/
theorem s5b : st 5 V (Proc.devRef .tc main_while0b_cst_24) = constant S_ .f32 0x00000000#32 := by
  show after while0Ops0_5 V _ = _
  after_results

/-- The weight of the cross entropy. -/
theorem s6 : st 6 V (Proc.devRef .tc main_while0b_v62) = select (V (Proc.devRef .tc main_while0b_v61)) (V (Proc.devRef .tc main_while0b_cst_23)) (V (Proc.devRef .tc main_while0b_cst_24)) := by
  show after while0Ops0_6 V _ = _
  after_results
  rfl

/-! The second group. -/

/-- The first group's weighted cross entropy. -/
theorem s7l : st 7 V (Proc.devRef .tc main_while0b_v64) = mulf (V (Proc.devRef .tc main_while0b_v60)) (V (Proc.devRef .tc main_while0b_v62)) := by
  show after while0Ops0_7 V _ = _
  after_results
  rfl

/-- The second group's table. -/
theorem s7w : st 7 V (Proc.devRef .tc main_while0b_v67) = table (V (Proc.devRef .tc main_while0b_v9)) 1 := by
  show after while0Ops0_7 V _ = _
  after_results
  rfl

/-- The second group's distances. -/
theorem s7 : st 7 V (Proc.devRef .tc main_while0b_v81) = dist (cols (V (Proc.devRef .tc main_while0b_v11)) 1) (table (V (Proc.devRef .tc main_while0b_v9)) 1) := by
  show after while0Ops0_7 V _ = _
  after_results
  rfl

/-- The second group's codes. -/
theorem s8 : st 8 V (Proc.devRef .tc main_while0b_v82) = code (V (Proc.devRef .tc main_while0b_v81)) := by
  show after while0Ops0_8 V _ = _
  after_results
  rfl

/-- The second group's chosen rows. -/
theorem s9 : st 9 V (Proc.devRef .tc main_while0b_v83) = pick (V (Proc.devRef .tc main_while0b_v67)) (V (Proc.devRef .tc main_while0b_v82)) := by
  show after while0Ops0_9 V _ = _
  after_results
  rfl

/-- The cross entropy: the logits, their peaks, the logarithms, the mean. -/
theorem s10 : st 10 V (Proc.devRef .tc main_while0b_v113) = entropy (V (Proc.devRef .tc main_while0b_v67)) := by
  have e1 : ∀ V : Valuation τ sig (Elt F), after (while0Ops0_10.take 5) V (Proc.devRef .tc main_while0b_v87) = logits (V (Proc.devRef .tc main_while0b_v67)) := by
    intro V
    simp only [List.take]
    after_results
    rfl
  have e2 : ∀ V : Valuation τ sig (Elt F), after ((while0Ops0_10.drop 5).take 11) V (Proc.devRef .tc main_while0b_v96) = lse (V (Proc.devRef .tc main_while0b_v87))
      ∧ after ((while0Ops0_10.drop 5).take 11) V (Proc.devRef .tc main_while0b_v88) = iotaInDim S1024 32 0
      ∧ after ((while0Ops0_10.drop 5).take 11) V (Proc.devRef .tc main_while0b_v87) = (V (Proc.devRef .tc main_while0b_v87)) := by
    intro V
    simp only [List.take, List.drop]
    refine ⟨?_, ?_, ?_⟩
    · after_results
      rfl
    all_goals after_results
  have e3 : ∀ V : Valuation τ sig (Elt F), after ((while0Ops0_10.drop 5).drop 11) V (Proc.devRef .tc main_while0b_v113) = gap (V (Proc.devRef .tc main_while0b_v88)) (V (Proc.devRef .tc main_while0b_v96)) (V (Proc.devRef .tc main_while0b_v87)) := by
    intro V
    simp only [List.drop]
    after_results
    rfl
  show after while0Ops0_10 V _ = _
  rw [cut 5, cut 11 (while0Ops0_10.drop 5), e3, (e2 _).1, (e2 _).2.1, (e2 _).2.2, e1]
  rfl

/-- Whether the layer is the first, read again. -/
theorem s10c : st 10 V (Proc.devRef .tc main_while0b_v114) = cmpi .eq (V (Proc.devRef .tc main_while0b_v8)) (constantI S_ 32 0#32) := by
  show after while0Ops0_10 V _ = _
  after_results

/-- The weight in the first layer, read again. -/
theorem s10a : st 10 V (Proc.devRef .tc main_while0b_cst_38) = constant S_ .f32 0x3F800000#32 := by
  show after while0Ops0_10 V _ = _
  after_results

/-- The weight after it, read again. -/
theorem s10b : st 10 V (Proc.devRef .tc main_while0b_cst_39) = constant S_ .f32 0x00000000#32 := by
  show after while0Ops0_10 V _ = _
  after_results

/-- The weight of the cross entropy, read again. -/
theorem s11 : st 11 V (Proc.devRef .tc main_while0b_v115) = select (V (Proc.devRef .tc main_while0b_v114)) (V (Proc.devRef .tc main_while0b_cst_38)) (V (Proc.devRef .tc main_while0b_cst_39)) := by
  show after while0Ops0_11 V _ = _
  after_results
  rfl

/-! The layer's results. -/

/-- The layer's loss. -/
theorem s12l : st 12 V (Proc.devRef .tc main_while0b_v138) = loss (V (Proc.devRef .tc main_while0b_v64)) (mulf (V (Proc.devRef .tc main_while0b_v113)) (V (Proc.devRef .tc main_while0b_v115))) (V (Proc.devRef .tc main_v4_4)) (join (V (Proc.devRef .tc main_while0b_v30)) (V (Proc.devRef .tc main_while0b_v83))) := by
  show after while0Ops0_12 V _ = _
  after_results
  rfl

/-- The running sum, with the layer added. -/
theorem s12q : st 12 V (Proc.devRef .tc main_while0b_v141) = addf (V (Proc.devRef .tc main_v4_3)) (through (V (Proc.devRef .tc main_v4_4)) (join (V (Proc.devRef .tc main_while0b_v30)) (V (Proc.devRef .tc main_while0b_v83)))) := by
  show after while0Ops0_12 V _ = _
  after_results
  rfl

/-- The residual, with the layer subtracted. -/
theorem s12r : st 12 V (Proc.devRef .tc main_while0b_v142) = subf (V (Proc.devRef .tc main_v4_4)) (through (V (Proc.devRef .tc main_v4_4)) (join (V (Proc.devRef .tc main_while0b_v30)) (V (Proc.devRef .tc main_while0b_v83)))) := by
  show after while0Ops0_12 V _ = _
  after_results
  rfl

/-- The layer's codes, both groups. -/
theorem s12k : st 12 V (Proc.devRef .tc main_while0b_v145) = stack (V (Proc.devRef .tc main_while0b_v29)) (V (Proc.devRef .tc main_while0b_v82)) := by
  show after while0Ops0_12 V _ = _
  after_results
  rfl

/-- The losses, with the layer's written. -/
theorem s13 : st 13 V (Proc.devRef .tc main_while0b_v146) = setLoss (V (Proc.devRef .tc main_v4_5)) (V (Proc.devRef .tc main_while0b_v138)) (V (Proc.devRef .tc main_v4_2)) := by
  show after while0Ops0_13 V _ = _
  after_results_entrywise []

/-- The codes, with the layer's written. -/
theorem s14 : st 14 V (Proc.devRef .tc main_while0b_v147) = setCodes (V (Proc.devRef .tc main_v4_6)) (V (Proc.devRef .tc main_while0b_v145)) (V (Proc.devRef .tc main_v4_2)) := by
  show after while0Ops0_14 V _ = _
  after_results_entrywise []

/-- The carried running sum. -/
theorem s15q : st 15 V (Proc.devRef .tc main_v4_3) = (V (Proc.devRef .tc main_while0b_v141)) := by
  show after while0Ops0_15 V _ = _
  after_results
  rfl

/-- The carried residual. -/
theorem s15r : st 15 V (Proc.devRef .tc main_v4_4) = (V (Proc.devRef .tc main_while0b_v142)) := by
  show after while0Ops0_15 V _ = _
  after_results
  rfl

/-- The carried losses. -/
theorem s15l : st 15 V (Proc.devRef .tc main_v4_5) = (V (Proc.devRef .tc main_while0b_v146)) := by
  show after while0Ops0_15 V _ = _
  after_results
  rfl

/-- The carried codes. -/
theorem s15k : st 15 V (Proc.devRef .tc main_v4_6) = (V (Proc.devRef .tc main_while0b_v147)) := by
  show after while0Ops0_15 V _ = _
  after_results
  rfl

/-! A whole trip. -/

/-- Group `g`'s codes of a residual. -/
def codesOf (r : (⟨S16x512x2048, .f32⟩ : BufTy).Contents (Elt F)) (t : (⟨S2x1024x256, .f32⟩ : BufTy).Contents (Elt F)) (g : Fin 2) :
    (⟨S32768, .i32⟩ : BufTy).Contents (Elt F) := code (dist (cols (flat r) g) (table t g))

/-- The code vectors of a residual. -/
def vecs (r : (⟨S16x512x2048, .f32⟩ : BufTy).Contents (Elt F)) (t : (⟨S2x1024x256, .f32⟩ : BufTy).Contents (Elt F)) :
    (⟨S16x512x2048, .f32⟩ : BufTy).Contents (Elt F) :=
  join (pick (table t 0) (codesOf r t 0)) (pick (table t 1) (codesOf r t 1))

/-- A layer's loss. -/
def lossOf (i : (⟨S_, .i32⟩ : BufTy).Contents (Elt F)) (r : (⟨S16x512x2048, .f32⟩ : BufTy).Contents (Elt F))
    (t : (⟨S2x1024x256, .f32⟩ : BufTy).Contents (Elt F)) : (⟨S_, .f32⟩ : BufTy).Contents (Elt F) :=
  loss (mulf (entropy (table t 0)) (first i)) (mulf (entropy (table t 1)) (first i)) r (vecs r t)

/-- The residual after a trip. -/
theorem trip_res : afterL bodyI V (Proc.devRef .tc main_v4_4) = subf (V (Proc.devRef .tc main_v4_4)) (through (V (Proc.devRef .tc main_v4_4)) (vecs (V (Proc.devRef .tc main_v4_4)) (tables (V (Proc.devRef .tc main_v4_1)) (V (Proc.devRef .tc main_v4_2))))) := by
  rw [trip_eq]
  repeat first | rw [s15r] | rw [s14] | rw [s13] | rw [s12r] | rw [s9] | rw [s8] | rw [s7] | rw [s7w] | rw [s4] | rw [s3] | rw [s2] | rw [s2x] | rw [s2w] | rw [s1] | rw [keep _ _ _ (by decide +kernel)]
  rfl

/-- The quantized input after a trip. -/
theorem trip_quant : afterL bodyI V (Proc.devRef .tc main_v4_3) = addf (V (Proc.devRef .tc main_v4_3)) (through (V (Proc.devRef .tc main_v4_4)) (vecs (V (Proc.devRef .tc main_v4_4)) (tables (V (Proc.devRef .tc main_v4_1)) (V (Proc.devRef .tc main_v4_2))))) := by
  rw [trip_eq]
  repeat first | rw [s15q] | rw [s12q] | rw [s9] | rw [s8] | rw [s7] | rw [s7w] | rw [s4] | rw [s3] | rw [s2] | rw [s2x] | rw [s2w] | rw [s1] | rw [keep _ _ _ (by decide +kernel)]
  rfl

/-- The codes after a trip. -/
theorem trip_codes : afterL bodyI V (Proc.devRef .tc main_v4_6)
    = setCodes (V (Proc.devRef .tc main_v4_6)) (stack (codesOf (V (Proc.devRef .tc main_v4_4)) (tables (V (Proc.devRef .tc main_v4_1)) (V (Proc.devRef .tc main_v4_2))) 0) (codesOf (V (Proc.devRef .tc main_v4_4)) (tables (V (Proc.devRef .tc main_v4_1)) (V (Proc.devRef .tc main_v4_2))) 1)) (V (Proc.devRef .tc main_v4_2)) := by
  rw [trip_eq]
  repeat first | rw [s15k] | rw [s14] | rw [s12k] | rw [s8] | rw [s7] | rw [s3] | rw [s2] | rw [s2x] | rw [s1] | rw [keep _ _ _ (by decide +kernel)]
  rfl

/-- The losses after a trip. -/
theorem trip_loss : afterL bodyI V (Proc.devRef .tc main_v4_5)
    = setLoss (V (Proc.devRef .tc main_v4_5)) (lossOf (number (V (Proc.devRef .tc main_v4_0)) (V (Proc.devRef .tc main_v4_2))) (V (Proc.devRef .tc main_v4_4)) (tables (V (Proc.devRef .tc main_v4_1)) (V (Proc.devRef .tc main_v4_2)))) (V (Proc.devRef .tc main_v4_2)) := by
  rw [trip_eq]
  repeat first | rw [s15l] | rw [s13] | rw [s12l] | rw [s11] | rw [s10] | rw [s10a] | rw [s10b] | rw [s10c] | rw [s9] | rw [s8] | rw [s7] | rw [s7l] | rw [s7w] | rw [s6] | rw [s5] | rw [s5a] | rw [s5b] | rw [s5c] | rw [s4] | rw [s3] | rw [s2] | rw [s2x] | rw [s2w] | rw [s1] | rw [s0] | rw [keep _ _ _ (by decide +kernel)]
  rfl

end Cert.ReferenceIdeal.Layer

end
-- ==== Proof.RIdeal.lean ====
/- The reference's layer, read at an element, against the mathematics of `Spec`. -/
module

public import proofs.«01_k».proof.Proof.RefTrip
public import proofs.«01_k».proof.Proof.Spec
public import Idealize.ShloMosaic.Lib.Pointwise
public import Idealize.ShloMosaic.Lib.Routing.Ops

@[expose] public section

set_option maxRecDepth 16384

noncomputable section

namespace Cert.ReferenceIdeal.Layer

open Idealize.ShloMosaic Cert.ReferenceIdeal Cert.ReferenceIdeal.Gen

/-! ## The nearest code -/

/-- The order the nearest code is least in: by distance, then by place. -/
def Before (a b : Ideal FTy.f32 × BitVec 32) : Prop := (show EReal from a.1) < b.1 ∨ (show EReal from a.1) = b.1 ∧ a.2.toInt ≤ b.2.toInt

/-- Of two pairs the reducer keeps the first where it comes before. -/
theorem pick_left {a b : Ideal FTy.f32 × BitVec 32} (h : Before a b) : reducer_argmin_f32_i32 (F := Ideal) a b = a := by
  obtain ⟨a, i⟩ := a
  obtain ⟨b, j⟩ := b
  unfold reducer_argmin_f32_i32
  rcases h with h | ⟨h, hi⟩
  · simp only at h
    have hor : ∀ x : BitVec 1, 1#1 ||| x = 1#1 := by decide
    simp [Ideal.cmpf_def, Ideal.cmp, h, Scalar.select, IntOp.ori, IntOp.andi, hor]
  · simp only at h hi
    subst h
    have : IntOp.cmpi .slt i j = 1#1 ∨ i = j := by
      rcases lt_or_eq_of_le hi with h | h
      · left; simp [IntOp.cmpi, BitVec.slt, h]
      · right; exact BitVec.eq_of_toInt_eq h
    rcases this with h | rfl
    · simp [Ideal.cmpf_def, Ideal.cmp, h, Scalar.select, IntOp.ori, IntOp.andi]
    · simp [Ideal.cmpf_def, Ideal.cmp, Scalar.select, IntOp.ori, IntOp.andi]

/-- And the second where that comes before. -/
theorem pick_right {a b : Ideal FTy.f32 × BitVec 32} (h : Before b a) : reducer_argmin_f32_i32 (F := Ideal) a b = b := by
  obtain ⟨a, i⟩ := a
  obtain ⟨b, j⟩ := b
  unfold reducer_argmin_f32_i32
  rcases h with h | ⟨h, hi⟩
  · simp only at h
    simp [Ideal.cmpf_def, Ideal.cmp, not_lt.mpr h.le, h.ne', Scalar.select, IntOp.ori, IntOp.andi]
  · simp only at h hi
    subst h
    have : IntOp.cmpi .slt i j = 0#1 := by simp [IntOp.cmpi, BitVec.slt, not_lt.mpr hi]
    simp [Ideal.cmpf_def, Ideal.cmp, this, Scalar.select, IntOp.ori, IntOp.andi]

/-- Of two pairs one comes before the other. -/
theorem before_total (a b : Ideal FTy.f32 × BitVec 32) : Before a b ∨ Before b a := by
  rcases lt_trichotomy (show EReal from a.1) b.1 with h | h | h
  · exact .inl (.inl h)
  · rcases le_total a.2.toInt b.2.toInt with g | g
    · exact .inl (.inr ⟨h, g⟩)
    · exact .inr (.inr ⟨h.symm, g⟩)
  · exact .inr (.inl h)

/-- The fold finds the least pair of a list. -/
theorem fold_least (m : Ideal FTy.f32 × BitVec 32) : ∀ (l : List (Ideal FTy.f32 × BitVec 32)) (a : Ideal FTy.f32 × BitVec 32),
    (m = a ∨ m ∈ l) → Before m a → (∀ b ∈ l, Before m b) → l.foldl (reducer_argmin_f32_i32 (F := Ideal)) a = m
  | [], a, hm, _, _ => by simpa using hm.symm.elim (fun h => absurd h (by simp)) Eq.symm
  | b :: l, a, hm, ha, hl => by
    have hb := hl b (by simp)
    have hl' : ∀ c ∈ l, Before m c := fun c hc => hl c (by simp [hc])
    rw [List.foldl_cons]
    rcases hm with rfl | hm
    · rw [pick_left hb]
      exact fold_least m l m (.inl rfl) ha hl'
    · rcases List.mem_cons.mp hm with rfl | hm
      · rw [pick_right ha]
        exact fold_least m l m (.inl rfl) hb hl'
      · refine fold_least m l _ (.inr hm) ?_ hl'
        rcases before_total a b with h | h
        · rw [pick_left h]; exact ha
        · rw [pick_right h]; exact hb

/-- The reduction of a shape's axis finds the least pair of those that drop to an index. -/
theorem argmin_apply {s t u : Shape} {axes : List (Fin s.rank)} (x : FVec Ideal s .f32) (y : s.Idx → BitVec 32) (ix : u.Idx → Ideal .f32)
    (iy : u.Idx → BitVec 32) (h : s.ReducesTo axes t) (hu : 0 < u.numel) (j : t.Idx) (i : s.Idx) (hi : h.drop i = j)
    (h0 : Before (x i, y i) (ix (Shape.Idx.first hu), iy (Shape.Idx.first hu))) (hl : ∀ k, h.drop k = j → Before (x i, y i) (x k, y k)) :
    (Host.argReduce (reducer_argmin_f32_i32 (F := Ideal)) x y ix iy h hu j).2 = y i := by
  rw [Ideal.argReduce_eq_reduce2, Host.reduce2_eq_foldl_fiber, fold_least (x i, y i)]
  · right
    unfold Host.argReduceFiber
    exact List.mem_map.mpr ⟨s.rowMajor i, by simp [hi], by simp⟩
  · exact h0
  · intro b hb
    unfold Host.argReduceFiber at hb
    obtain ⟨n, hn, rfl⟩ := List.mem_map.mp hb
    exact hl _ (by simpa using hn)

/-- The place of an entry in its row. -/
def place : S32768x1024.Idx → BitVec 32 := iotaInDim S32768x1024 32 1

/-- The position of an entry in its row. -/
theorem place_apply (p : Fin 32768) (i : Fin 1024) : place (ix2 p i) = BitVec.ofNat 32 i.val := rfl

/-- The row of an entry. -/
theorem drop_val (k : S32768x1024.Idx) : (reducesTo_S32768x1024_S32768_d1.drop k 0).val = (k 0).val := rfl

/-- The codes are the positions of an argmin along the rows. -/
theorem code_eq (d : FVec Ideal S32768x1024 .f32) : code (F := Ideal) d = fun j => (Host.argReduce (reducer_argmin_f32_i32 (F := Ideal)) d place
    (constant S_ .f32 0x7F800000#32) (constantI S_ 32 0#32) reducesTo_S32768x1024_S32768_d1 h_S_ j).2 := rfl

/-- A token's code is the place of its least distance. -/
theorem code_apply (d : FVec Ideal S32768x1024 .f32) (p : Fin 32768) :
    code (F := Ideal) d (ix1 p) = BitVec.ofNat 32 (Spec.amin fun k => d (ix2 p k)).val := by
  have hl := Spec.amin_least fun k => d (ix2 p k)
  generalize Spec.amin (fun k => d (ix2 p k)) = i at hl
  rw [code_eq, ← place_apply p i]
  dsimp only
  refine argmin_apply d place _ _ _ _ (ix1 p) (ix2 p i) ?_ ?_ ?_
  · rw [eq_ix1 (Shape.ReducesTo.drop _ _)]
    congr 1
  · rw [place_apply]
    have e : ∀ k : S_.Idx, (constant S_ .f32 0x7F800000#32 : FVec Ideal S_ .f32) k = (⊤ : EReal) := fun k => by
      show Ideal.ofBits FTy.f32 2139095040#32 = ⊤
      simp [Ideal.ofBits, Ideal.ieee]
    unfold Before
    dsimp only
    rw [e]
    rcases lt_or_eq_of_le (le_top (a := (show EReal from d (ix2 p i)))) with h | h
    · exact .inl h
    · refine .inr ⟨h, ?_⟩
      have : i.val = 0 := by
        by_contra hn
        have := hl.2 0 (Fin.pos_iff_ne_zero.mpr fun e => hn (by rw [e]; rfl))
        exact absurd this (not_lt.mpr (le_top.trans_eq h.symm))
      rw [this]
      decide
  · intro k hk
    obtain ⟨q, rfl⟩ : ∃ q : Fin 1024, k = ix2 p q := by
      refine ⟨k 1, ?_⟩
      rw [eq_ix2 k]
      congr 1
      exact Fin.ext ((drop_val k).symm.trans (by rw [hk]; rfl))
    rw [place_apply, place_apply]
    unfold Before
    dsimp only
    rcases lt_or_eq_of_le (hl.1 q) with h | h
    · exact .inl h
    · refine .inr ⟨h, ?_⟩
      rw [Spec.toInt_ofNat i.val (by omega), Spec.toInt_ofNat q.val (by omega)]
      have : ¬ q < i := fun g => absurd (hl.2 q g) (by rw [h]; exact lt_irrefl _)
      have : i.val ≤ q.val := not_lt.mp this
      omega

/-! ## The rows -/

/-- The distance of a token to a row of the table. -/
theorem dist_apply (x : FVec Ideal S32768x256 .f32) (w : FVec Ideal S1024x256 .f32) (p : Fin 32768) (k : Fin 1024) :
    dist (F := Ideal) x w (ix2 p k) = Spec.dist (fun d => x (ix2 p d)) (fun k d => w (ix2 k d)) k := by
  pointwise [dist]
  rfl

/-- A group's half of a token, read from the input's layout. -/
theorem cols_apply (r : FVec Ideal S16x512x2048 .f32) (g : Fin 2) (p : Fin 32768) (c : Fin 256) :
    cols (F := Ideal) (flat (F := Ideal) r) g (ix2 p c) = r (ix3 ⟨p.val / 2048, by omega⟩ ⟨256 * g.val + c.val, by omega⟩ ⟨p.val % 2048, by omega⟩) := by
  fin_cases g
  · pointwise [cols, flat]
  · pointwise [cols, flat]

/-- The greatest entry of a row. -/
theorem peak_apply (w : FVec Ideal S1024x1024 .f32) (i : Fin 1024) :
    peak (F := Ideal) w (ix1 i) = Finset.fold max (Ideal.ofBits FTy.f32 4286578688#32) (fun x => w (ix2 i x)) Finset.univ := by
  pointwise [peak]

/-- The scaled product of two rows of a table. -/
theorem logits_apply (w : FVec Ideal S1024x256 .f32) (i k : Fin 1024) :
    logits (F := Ideal) w (ix2 i k) = Ideal.ofBits FTy.f32 1077936128#32 * ∑ d, w (ix2 i d) * w (ix2 k d) := by
  pointwise [logits]
  exact mul_comm _ _

/-- Two groups of columns side by side. -/
def side (z z' : FVec Ideal S32768x256 .f32) : FVec Ideal S32768x512 .f32 :=
  concatenate S32768x512 1 [⟨S32768x256, z⟩, ⟨S32768x256, z'⟩] concatenates_S32768x256_S32768x256_S32768x512_d1

/-- The tokens back in the input's layout. -/
def unflat (z : FVec Ideal S32768x512 .f32) : FVec Ideal S16x512x2048 .f32 :=
  transpose S16x512x2048 [0, 2, 1] (shapeCast S16x2048x512 z shapeCasts_S32768x512_S16x2048x512) transposes_S16x2048x512_S16x512x2048_0_2_1

/-- An array of tokens in the input's layout. -/
theorem unflat_apply (z : FVec Ideal S32768x512 .f32) (b : Fin 16) (c : Fin 512) (t : Fin 2048) :
    unflat z (ix3 b c t) = z (ix2 ⟨b.val * 2048 + t.val, by omega⟩ c) := by
  pointwise [unflat]

/-- Two halves side by side. -/
theorem side_apply (z z' : FVec Ideal S32768x256 .f32) (p : Fin 32768) (c : Fin 512) :
    side z z' (ix2 p c) = if h : c.val < 256 then z (ix2 p ⟨c.val, h⟩) else z' (ix2 p ⟨c.val - 256, by omega⟩) := by
  pointwise [side]

/-- Two halves side by side in the input's layout. -/
theorem join_apply (z z' : FVec Ideal S32768x256 .f32) (b : Fin 16) (c : Fin 512) (t : Fin 2048) :
    join (F := Ideal) z z' (ix3 b c t) = if h : c.val < 256 then z (ix2 ⟨b.val * 2048 + t.val, by omega⟩ ⟨c.val, h⟩)
      else z' (ix2 ⟨b.val * 2048 + t.val, by omega⟩ ⟨c.val - 256, by omega⟩) :=
  (unflat_apply (side z z') b c t).trans (side_apply z z' _ c)

/-! A code is not negative, and below the number of codes. -/

/-- A code is not negative. -/
theorem code_slt (q : Fin 1024) : IntOp.cmpi .slt (BitVec.ofNat 32 q.val) 0#32 = 0#1 := by
  have : ¬ (q.val : ℤ) < 0 := by omega
  simp [IntOp.cmpi, BitVec.slt, Spec.toInt_ofNat q.val (by omega), this]

/-- A code is at least zero. -/
theorem code_sge (q : Fin 1024) : IntOp.cmpi .sge (BitVec.ofNat 32 q.val) 0#32 = 1#1 := by
  have : (0 : ℤ) ≤ q.val := by omega
  simp [IntOp.cmpi, BitVec.sle, Spec.toInt_ofNat q.val (by omega), this]

/-- A code is at most the last. -/
theorem code_sle (q : Fin 1024) : IntOp.cmpi .sle (BitVec.ofNat 32 q.val) 1023#32 = 1#1 := by
  have : (q.val : ℤ) ≤ 1023 := by omega
  simp [IntOp.cmpi, BitVec.sle, Spec.toInt_ofNat q.val (by omega), this]

/-- The gathered row is the one at the code. -/
theorem row_apply (w : FVec Ideal S1024x256 .f32) (k : IVec S32768x1 32) (p : Fin 32768) (c : Fin 256) (q : Fin 1024)
    (hq : k (ix2 p 0) = BitVec.ofNat 32 q.val) :
    Host.gather gather_S1024x256_S32768x1_S32768x256_1_0_n_n_0_1_1256 w k (ix2 p c) = w (ix2 q c) :=
  Routing.gather_row gather_S1024x256_S32768x1_S32768x256_1_0_n_n_0_1_1256 rfl rfl rfl rfl rfl w k p c q hq (by norm_num)

/-- A code that is not negative is used as it is. -/
theorem wrap_apply (k : IVec S32768 32) (p : Fin 32768) (q : Fin 1024) (hq : k (ix1 p) = BitVec.ofNat 32 q.val) (i : Fin 1) :
    wrap (F := Ideal) k (ix2 p i) = BitVec.ofNat 32 q.val := by
  pointwise [wrap]
  rw [hq]
  rw [code_slt]
  rfl

/-- A code's vector: the table's row. -/
theorem pick_apply (w : FVec Ideal S1024x256 .f32) (k : IVec S32768 32) (p : Fin 32768) (c : Fin 256) (q : Fin 1024)
    (hq : k (ix1 p) = BitVec.ofNat 32 q.val) : pick (F := Ideal) w k (ix2 p c) = w (ix2 q c) := by
  have hw := wrap_apply k p q hq
  unfold pick
  generalize wrap (F := Ideal) k = u at hw
  have hg := row_apply w u p c q (hw 0)
  generalize Host.gather gather_S1024x256_S32768x1_S32768x256_1_0_n_n_0_1_1256 w u = g at hg
  pointwise
  rw [hg]
  simp only [hw, code_sge, code_sle]
  rfl

/-- The gathered entry of the diagonal. -/
theorem diag_apply (l : FVec Ideal S1024x1024 .f32) (k : IVec S1024x2 32) (i : Fin 1024)
    (h0 : k (ix2 i 0) = BitVec.ofNat 32 i.val) (h1 : k (ix2 i 1) = BitVec.ofNat 32 i.val) :
    Host.gather gather_S1024x1024_S1024x2_S1024_n_01_n_n_01_1_11 l k (ix1 i) = l (ix2 i i) := by
  unfold Host.gather
  refine congrArg l (funext fun a => Fin.ext ?_)
  have hs : ∀ x, gather_S1024x1024_S1024x2_S1024_n_01_n_n_01_1_11.siIdx (ix1 i) x = ix2 i x := fun x => by
    funext b
    match b with
    | ⟨0, _⟩ => rfl
    | ⟨1, _⟩ => rfl
  have ht : ∀ a, gather_S1024x1024_S1024x2_S1024_n_01_n_n_01_1_11.start (ix1 i) k a = i.val := fun a => by
    unfold GatherDims.start
    match a with
    | ⟨0, _⟩ =>
      rw [dif_pos (show (⟨0, by decide⟩ : Fin 2) ∈ gather_S1024x1024_S1024x2_S1024_n_01_n_n_01_1_11.startIndexMap by decide), hs]
      show min (k (ix2 i 0)).toInt.toNat 1023 = i.val
      rw [h0, Spec.toInt_ofNat i.val (by omega)]
      omega
    | ⟨1, _⟩ =>
      rw [dif_pos (show (⟨1, by decide⟩ : Fin 2) ∈ gather_S1024x1024_S1024x2_S1024_n_01_n_n_01_1_11.startIndexMap by decide), hs]
      show min (k (ix2 i 1)).toInt.toNat 1023 = i.val
      rw [h1, Spec.toInt_ofNat i.val (by omega)]
      omega
  show GatherDims.start _ (ix1 i) k a + GatherDims.batchCoord _ (ix1 i) a + GatherDims.offCoord _ (ix1 i) a = _
  rw [ht, GatherDims.batchCoord_eq_zero _ _ _ List.not_mem_nil, GatherDims.offCoord_eq_zero _ _ _ (by revert a; decide)]
  match a with
  | ⟨0, _⟩ => rfl
  | ⟨1, _⟩ => rfl

/-- A row's label is its number. -/
theorem label_apply (i : Fin 1024) (j : Fin 1) : label (F := Ideal) (iotaInDim S1024 32 0) (ix2 i j) = BitVec.ofNat 32 i.val := by
  pointwise [label]
  rw [code_slt]
  rfl

/-- The labels, twice. -/
def labels (a : IVec S1024x1 32) : IVec S1024x2 32 :=
  concatenate S1024x2 1 [⟨S1024x1, a⟩, ⟨S1024x1, a⟩] concatenates_S1024x1_S1024x1_S1024x2_d1

/-- Both coordinates of a diagonal entry are the label. -/
theorem labels_apply (a : IVec S1024x1 32) (i : Fin 1024) (j : Fin 2) : labels a (ix2 i j) = a (ix2 i 0) := by
  pointwise [labels]
  split <;> exact congrArg (fun z => a (ix2 i z)) (Subsingleton.elim (α := Fin 1) _ _)

/-- The logarithm of the sum of exponentials of a row. -/
theorem lse_apply (l : FVec Ideal S1024x1024 .f32) (i : Fin 1024) : lse (F := Ideal) l (ix1 i)
    = Ideal.log (∑ k, Ideal.exp (l (ix2 i k) - peak (F := Ideal) l (ix1 i))) + peak (F := Ideal) l (ix1 i) := by
  unfold lse
  generalize peak (F := Ideal) l = m
  pointwise

/-- The mean of what the logarithm exceeds the diagonal by. -/
theorem gap_apply (a : IVec S1024 32) (s : FVec Ideal S1024 .f32) (l : FVec Ideal S1024x1024 .f32) : gap (F := Ideal) a s l ix0
    = Ideal.div (∑ i, (s (ix1 i) - Host.gather gather_S1024x1024_S1024x2_S1024_n_01_n_n_01_1_11 l (labels (label (F := Ideal) a)) (ix1 i))) (Ideal.ofBits FTy.f32 1149239296#32) := by
  unfold gap
  show Host.divf (Host.reduceAdd (subf s (Host.gather gather_S1024x1024_S1024x2_S1024_n_01_n_n_01_1_11 l (labels (label (F := Ideal) a)))) _ _ _) _ _ = _
  generalize Host.gather gather_S1024x1024_S1024x2_S1024_n_01_n_n_01_1_11 l (labels (label (F := Ideal) a)) = g
  pointwise

/-- The cross entropy of a table. -/
theorem entropy_apply (w : FVec Ideal S1024x256 .f32) : entropy (F := Ideal) w ix0 = Spec.entropy fun k d => w (ix2 k d) := by
  unfold entropy
  rw [gap_apply]
  unfold Spec.entropy
  refine congrArg (Ideal.div · _) (Finset.sum_congr rfl fun i _ => ?_)
  rw [diag_apply _ _ i ((labels_apply _ i 0).trans (label_apply i 0)) ((labels_apply _ i 1).trans (label_apply i 0)), lse_apply, peak_apply]
  simp only [logits_apply]

/-! ## The layer's number, tables and results at trip `i` -/

/-- The counter at trip `i`. -/
def at' (i : Fin 8) : IVec S_ 32 := fun _ => BitVec.ofNat 32 i.val

/-- The number that the counter holds. -/
theorem at_toInt (i : Fin 8) (j : S_.Idx) : (at' i j).toInt = i.val := Spec.toInt_ofNat i.val (by omega)

/-- A layer's tables. -/
theorem tables_apply (cb : FVec Ideal S8x2x1024x256 .f32) (i : Fin 8) (g : Fin 2) (k : Fin 1024) (d : Fin 256) :
    tables (F := Ideal) cb (at' i) (ix3 g k d) = cb (ix4 i g k d) := by
  pointwise [tables]
  refine congrArg cb ?_
  have h0 := fun ht => Host.clampedStart_of_le (s := S8x2x1024x256) (t := S1x2x1024x256) ht
    (fun a => ((![at' i, constantI S_ 32 0#32, constantI S_ 32 0#32, constantI S_ 32 0#32] : Fin 4 → IVec S_ 32) a (Shape.Idx.first h_S_)).toInt) 0 i.val
    (at_toInt i (Shape.Idx.first h_S_)) (by show i.val + 1 ≤ 8; omega)
  have h1 := fun ht => Host.clampedStart_of_le (s := S8x2x1024x256) (t := S1x2x1024x256) ht
    (fun a => ((![at' i, constantI S_ 32 0#32, constantI S_ 32 0#32, constantI S_ 32 0#32] : Fin 4 → IVec S_ 32) a (Shape.Idx.first h_S_)).toInt) 1 0
    rfl (by show 0 + 2 ≤ 2; omega)
  have h2 := fun ht => Host.clampedStart_of_le (s := S8x2x1024x256) (t := S1x2x1024x256) ht
    (fun a => ((![at' i, constantI S_ 32 0#32, constantI S_ 32 0#32, constantI S_ 32 0#32] : Fin 4 → IVec S_ 32) a (Shape.Idx.first h_S_)).toInt) 2 0
    rfl (by show 0 + 1024 ≤ 1024; omega)
  have h3 := fun ht => Host.clampedStart_of_le (s := S8x2x1024x256) (t := S1x2x1024x256) ht
    (fun a => ((![at' i, constantI S_ 32 0#32, constantI S_ 32 0#32, constantI S_ 32 0#32] : Fin 4 → IVec S_ 32) a (Shape.Idx.first h_S_)).toInt) 3 0
    rfl (by show 0 + 256 ≤ 256; omega)
  simp only [h0, h1, h2, h3, Nat.zero_add]

/-- A group's table. -/
theorem table_apply (t : FVec Ideal S2x1024x256 .f32) (g : Fin 2) (k : Fin 1024) (d : Fin 256) : table (F := Ideal) t g (ix2 k d) = t (ix3 g k d) := by
  fin_cases g
  · pointwise [table]
  · pointwise [table]

/-- The weight of the cross entropy: one in the first layer and zero after it. -/
theorem first_apply (i : Fin 8) : first (F := Ideal) (number (F := Ideal) (iotaInDim S8 32 0) (at' i)) ix0 = if i.val < 1 then (1 : EReal) else 0 := by
  have hn : number (F := Ideal) (iotaInDim S8 32 0) (at' i) ix0 = BitVec.ofNat 32 i.val := by
    pointwise [number]
    congr 1
    exact Host.clampedStart_of_le (s := S8) (t := S1) rfl (fun a => (at' i (Shape.Idx.first h_S_)).toInt) 0 i.val (at_toInt i (Shape.Idx.first h_S_)) (by show i.val + 1 ≤ 8; omega)
  pointwise [first]
  rw [hn]
  revert i
  intro i _
  fin_cases i <;> rfl

/-- Writing a layer's loss leaves the others. -/
theorem setLoss_apply (v : FVec Ideal S8 .f32) (l : FVec Ideal S_ .f32) (k i : Fin 8) :
    setLoss (F := Ideal) v l (at' k) (ix1 i) = if i = k then l ix0 else v (ix1 i) := by
  pointwise [setLoss]
  have h0 := fun ht => Host.clampedStart_of_le (s := S8) (t := S1) ht (fun a => (at' k (Shape.Idx.first h_S_)).toInt) 0 k.val (at_toInt k (Shape.Idx.first h_S_)) (by show k.val + 1 ≤ 8; omega)
  simp only [h0]
  by_cases h : i = k
  · subst h
    rw [if_pos rfl, dif_pos (by omega)]
  · have : i.val ≠ k.val := fun e => h (Fin.ext e)
    rw [if_neg h, dif_neg (by omega)]

/-- Writing a layer's codes leaves the others. -/
theorem setCodes_apply (v : IVec S8x2x32768 32) (l : IVec S2x32768 32) (k i : Fin 8) (g : Fin 2) (n : Fin 32768) :
    setCodes (F := Ideal) v l (at' k) (ix3 i g n) = if i = k then l (ix2 g n) else v (ix3 i g n) := by
  pointwise [setCodes]
  have h0 := fun ht => Host.clampedStart_of_le (s := S8x2x32768) (t := S1x2x32768) ht
    (fun a => ((![at' k, constantI S_ 32 0#32, constantI S_ 32 0#32] : Fin 3 → IVec S_ 32) a (Shape.Idx.first h_S_)).toInt) 0 k.val (at_toInt k (Shape.Idx.first h_S_)) (by show k.val + 1 ≤ 8; omega)
  have h1 := fun ht => Host.clampedStart_of_le (s := S8x2x32768) (t := S1x2x32768) ht
    (fun a => ((![at' k, constantI S_ 32 0#32, constantI S_ 32 0#32] : Fin 3 → IVec S_ 32) a (Shape.Idx.first h_S_)).toInt) 1 0 rfl (by show 0 + 2 ≤ 2; omega)
  have h2 := fun ht => Host.clampedStart_of_le (s := S8x2x32768) (t := S1x2x32768) ht
    (fun a => ((![at' k, constantI S_ 32 0#32, constantI S_ 32 0#32] : Fin 3 → IVec S_ 32) a (Shape.Idx.first h_S_)).toInt) 2 0 rfl (by show 0 + 32768 ≤ 32768; omega)
  simp only [h0, h1, h2, Nat.sub_zero]
  by_cases h : i = k
  · subst h
    rw [if_pos rfl, dif_pos (by omega)]
  · have : i.val ≠ k.val := fun e => h (Fin.ext e)
    rw [if_neg h, dif_neg (by omega)]

/-- The two groups' codes, one above the other. -/
theorem stack_apply (a b : IVec S32768 32) (g : Fin 2) (n : Fin 32768) :
    stack (F := Ideal) a b (ix2 g n) = if g.val < 1 then a (ix1 n) else b (ix1 n) := by
  pointwise [stack]
  split <;> rfl

end Cert.ReferenceIdeal.Layer

end
-- ==== Proof.RLoop.lean ====
/- The reference's loop over the layers against the mathematics of `Spec`. -/
module

public import proofs.«01_k».proof.Proof.RIdeal

@[expose] public section

set_option maxRecDepth 16384

noncomputable section

namespace Cert.ReferenceIdeal.Layer

open Idealize.ShloMosaic Idealize.ShloMosaic.TcCoe Cert.ReferenceIdeal Cert.ReferenceIdeal.Gen Cert.ReferenceIdeal.Fold

/-- Token `n` of an array in the input's layout. -/
def tk (x : FVec Ideal S16x512x2048 .f32) (n : Fin 32768) (d : Fin 512) : EReal := x (ix3 ⟨n.val / 2048, by omega⟩ d ⟨n.val % 2048, by omega⟩)

/-- The tables, layer by layer. -/
def tbs (cb : FVec Ideal S8x2x1024x256 .f32) (i : ℕ) (g : Fin 2) (k : Fin 1024) (d : Fin 256) : EReal := cb (ix4 (Fin.ofNat 8 i) g k d)

/-- A layer's table for a group. -/
theorem tbs_eq (cb : FVec Ideal S8x2x1024x256 .f32) (i : Fin 8) (g : Fin 2) :
    (fun k d => table (F := Ideal) (tables (F := Ideal) cb (at' i)) g (ix2 k d)) = tbs cb i.val g := by
  funext k d
  rw [table_apply, tables_apply]
  unfold tbs
  rw [show Fin.ofNat 8 i.val = i from Fin.ext (Nat.mod_eq_of_lt i.isLt)]

variable (r : FVec Ideal S16x512x2048 .f32) (cb : FVec Ideal S8x2x1024x256 .f32) (i : Fin 8)

/-- A token's code is the first position at the least distance. -/
theorem codesOf_apply (g : Fin 2) (p : Fin 32768) :
    codesOf (F := Ideal) r (tables (F := Ideal) cb (at' i)) g (ix1 p) = BitVec.ofNat 32 (Spec.pos (tk r p) (tbs cb i.val) g).val := by
  unfold codesOf
  rw [code_apply]
  simp only [dist_apply, cols_apply]
  rw [tbs_eq]
  rfl

/-- A token's chosen rows. -/
theorem vecs_apply (n : Fin 32768) (d : Fin 512) :
    tk (vecs (F := Ideal) r (tables (F := Ideal) cb (at' i))) n d = Spec.vec (tk r n) (tbs cb i.val) d := by
  have hn : (⟨n.val / 2048 * 2048 + n.val % 2048, by omega⟩ : Fin 32768) = n := Fin.ext (by show n.val / 2048 * 2048 + n.val % 2048 = n.val; omega)
  unfold tk vecs
  rw [join_apply]
  dsimp only
  rw [hn]
  unfold Spec.vec
  split
  · rw [pick_apply _ _ n _ _ (codesOf_apply r cb i 0 n)]
    exact congrFun (congrFun (tbs_eq cb i 0) _) _
  · rw [pick_apply _ _ n _ _ (codesOf_apply r cb i 1 n)]
    exact congrFun (congrFun (tbs_eq cb i 1) _) _

/-- A sum over the input's layout, token by token. -/
theorem sum_tokens (f : Fin 16 → Fin 512 → Fin 2048 → EReal) :
    ∑ b, ∑ d, ∑ t, f b d t = ∑ n : Fin 32768, ∑ d, f ⟨n.val / 2048, by omega⟩ d ⟨n.val % 2048, by omega⟩ := by
  rw [Finset.sum_congr rfl fun b _ => Finset.sum_comm, ← Fintype.sum_prod_type']
  refine Fintype.sum_equiv (finProdFinEquiv (m := 16) (n := 2048)) _ (fun n : Fin 32768 => ∑ d, f ⟨n.val / 2048, by omega⟩ d ⟨n.val % 2048, by omega⟩) fun y => ?_
  obtain ⟨b, t⟩ := y
  refine Finset.sum_congr rfl fun d _ => ?_
  have e : (finProdFinEquiv (m := 16) (n := 2048) (b, t)).val = t.val + 2048 * b.val := rfl
  congr 1
  · exact Fin.ext (by show b.val = _ / 2048; rw [e]; omega)
  · exact Fin.ext (by show t.val = _ % 2048; rw [e]; omega)

/-- The mean squared error, as a sum over the tokens. -/
theorem msd_apply (q : FVec Ideal S16x512x2048 .f32) : msd (F := Ideal) r q ix0
    = Ideal.div (∑ n, ∑ d, (tk q n d - tk r n d) * (tk q n d - tk r n d)) (Ideal.ofBits FTy.f32 1266679808#32) := by
  pointwise [msd]
  rw [sum_tokens fun b d t => (q (ix3 b d t) - r (ix3 b d t)) * (q (ix3 b d t) - r (ix3 b d t))]
  rfl

/-- A layer's loss, from its parts. -/
theorem loss_apply (e e' : FVec Ideal S_ .f32) (q : FVec Ideal S16x512x2048 .f32) : loss (F := Ideal) e e' r q ix0
    = Ideal.ofBits FTy.f32 1036831949#32 * Ideal.div (e ix0 + e' ix0) (Ideal.ofBits FTy.f32 1073741824#32)
      + msd (F := Ideal) r q ix0 + Ideal.ofBits FTy.f32 1048576000#32 * msd (F := Ideal) r q ix0 := by
  unfold loss
  generalize msd (F := Ideal) r q = z
  pointwise
  simp only [Fin.sum_univ_one]

/-- The word of two. -/
theorem two_eq : Ideal.ofBits FTy.f32 1073741824#32 = ((2 : ℝ) : EReal) := by
  simp [Ideal.ofBits, Ideal.ieee]
  rw [← EReal.coe_mul]
  norm_num

/-- The word of a half. -/
theorem half_eq : Ideal.ofBits FTy.f32 1056964608#32 = ((1 / 2 : ℝ) : EReal) := by
  simp [Ideal.ofBits, Ideal.ieee]
  rw [← EReal.coe_mul]
  norm_num

/-- A product of scalars. -/
theorem mulf_at (a b : FVec Ideal S_ .f32) : mulf a b ix0 = a ix0 * b ix0 := rfl

/-- A layer's loss. -/
theorem lossOf_apply : lossOf (F := Ideal) (number (F := Ideal) (iotaInDim S8 32 0) (at' i)) r (tables (F := Ideal) cb (at' i)) ix0
    = Ideal.ofBits FTy.f32 1036831949#32
        * (if i.val < 1 then (Spec.entropy (tbs cb 0 0) + Spec.entropy (tbs cb 0 1)) * Ideal.ofBits FTy.f32 1056964608#32 else 0)
      + msd (F := Ideal) r (vecs (F := Ideal) r (tables (F := Ideal) cb (at' i))) ix0
      + Ideal.ofBits FTy.f32 1048576000#32 * msd (F := Ideal) r (vecs (F := Ideal) r (tables (F := Ideal) cb (at' i))) ix0 := by
  have he : ∀ g, entropy (F := Ideal) (table (F := Ideal) (tables (F := Ideal) cb (at' i)) g) ix0 = Spec.entropy (tbs cb i.val g) := fun g => by
    rw [entropy_apply, tbs_eq]
  unfold lossOf
  rw [loss_apply]
  rw [mulf_at, mulf_at, he, he, first_apply, two_eq, half_eq, Ideal.div_coe (by norm_num)]
  congr 3
  split
  · have : i.val = 0 := by omega
    rw [mul_one, mul_one, this]
  · rw [mul_zero, mul_zero, add_zero, zero_mul]

/-- Both groups' codes. -/
theorem stack_codes (g : Fin 2) (n : Fin 32768) :
    stack (F := Ideal) (codesOf (F := Ideal) r (tables (F := Ideal) cb (at' i)) 0) (codesOf (F := Ideal) r (tables (F := Ideal) cb (at' i)) 1) (ix2 g n)
      = BitVec.ofNat 32 (Spec.pos (tk r n) (tbs cb i.val) g).val := by
  rw [stack_apply, codesOf_apply, codesOf_apply]
  generalize tbs cb i.val = T
  generalize tk r n = x
  by_cases h : g.val < 1
  · obtain rfl : g = 0 := Fin.ext (by show g.val = 0; omega)
    rw [if_pos h]
  · obtain rfl : g = 1 := Fin.ext (by show g.val = 1; omega)
    rw [if_neg h]

/-! A step's residual and sum, at a token. -/

/-- The residual after a trip, token by token. -/
theorem resid_step (v : FVec Ideal S16x512x2048 .f32) (n : Fin 32768) (d : Fin 512) :
    tk (subf r (through (F := Ideal) r v)) n d = tk r n d - (tk r n d + (tk v n d - tk r n d)) := rfl

/-- The running sum after a trip, token by token. -/
theorem quant_step (q v : FVec Ideal S16x512x2048 .f32) (n : Fin 32768) (d : Fin 512) :
    tk (addf q (through (F := Ideal) r v)) n d = tk q n d + (tk r n d + (tk v n d - tk r n d)) := rfl

/-- An entry of an array in the input's layout belongs to a token. -/
theorem tk_apply (b : Fin 16) (d : Fin 512) (t : Fin 2048) : r (ix3 b d t) = tk r ⟨b.val * 2048 + t.val, by omega⟩ d := by
  have hb : (⟨(b.val * 2048 + t.val) / 2048, by omega⟩ : Fin 16) = b := Fin.ext (by show (b.val * 2048 + t.val) / 2048 = b.val; omega)
  have ht : (⟨(b.val * 2048 + t.val) % 2048, by omega⟩ : Fin 2048) = t := Fin.ext (by show (b.val * 2048 + t.val) % 2048 = t.val; omega)
  unfold tk
  dsimp only
  rw [hb, ht]

/-! A step of `Spec`. -/

/-- The residual of the next layer. -/
theorem spec_res (x : Fin 512 → EReal) (T : ℕ → Fin 2 → Fin 1024 → Fin 256 → EReal) (k : ℕ) (d : Fin 512) :
    Spec.res x T (k + 1) d = Spec.res x T k d - Spec.vec (Spec.res x T k) (T k) d := rfl

/-- The running sum of the next layer. -/
theorem spec_acc (x : Fin 512 → EReal) (T : ℕ → Fin 2 → Fin 1024 → Fin 256 → EReal) (k : ℕ) (d : Fin 512) :
    Spec.acc x T (k + 1) d = Spec.acc x T k d + Spec.vec (Spec.res x T k) (T k) d := rfl

end Cert.ReferenceIdeal.Layer

end
-- ==== Proof.RFinal.lean ====
/- The reference's three results. -/
module

public import proofs.«01_k».proof.Proof.RLoop

@[expose] public section

set_option maxRecDepth 16384

noncomputable section

namespace Cert.ReferenceIdeal.Layer

open Idealize.ShloMosaic Idealize.ShloMosaic.TcCoe Cert.ReferenceIdeal Cert.ReferenceIdeal.Gen Cert.ReferenceIdeal.Fold
open Idealize.ShloMosaic.StableHlo

variable (m : (ℓ : Loc nD τ sig) → Buf (Elt Ideal) ℓ) (c : Dev nD)

/-- The input. -/
def xin : FVec Ideal S16x512x2048 .f32 := m ((c.tc : Thread nD τ).loc main_arg0)
/-- The codebooks. -/
def cbs : FVec Ideal S8x2x1024x256 .f32 := m ((c.tc : Thread nD τ).loc main_arg1)

/-! The carried values before trip `k`. -/

def numbers (k : ℕ) : IVec S8 32 := atK m k c (Proc.devRef .tc main_v4_0)
def books (k : ℕ) : FVec Ideal S8x2x1024x256 .f32 := atK m k c (Proc.devRef .tc main_v4_1)
def quant (k : ℕ) : FVec Ideal S16x512x2048 .f32 := atK m k c (Proc.devRef .tc main_v4_3)
def resid (k : ℕ) : FVec Ideal S16x512x2048 .f32 := atK m k c (Proc.devRef .tc main_v4_4)
def lossv (k : ℕ) : FVec Ideal S8 .f32 := atK m k c (Proc.devRef .tc main_v4_5)
def codev (k : ℕ) : IVec S8x2x32768 32 := atK m k c (Proc.devRef .tc main_v4_6)

/-- The loop never writes the layers' numbers. -/
theorem numbers_eq (k : ℕ) : numbers m c k = iotaInDim S8 32 0 := by
  refine (atK_keep m c main_v4_0 (by decide +kernel) (by decide +kernel) k).trans ?_
  show after (hostOps0 (F := Ideal)) _ _ = _
  after_results
  rfl

/-- Nor the tables. -/
theorem books_eq (k : ℕ) : books m c k = cbs m c := by
  refine (atK_keep m c main_v4_1 (by decide +kernel) (by decide +kernel) k).trans ?_
  show after (hostOps0 (F := Ideal)) _ _ = _
  after_results
  rfl

/-- Before the first trip the residual is the input. -/
theorem resid_zero : resid m c 0 = xin m c := by
  refine (show resid m c 0 = entryContents preI m c (Proc.devRef .tc main_v4_4) from rfl).trans ?_
  show after (hostOps0 (F := Ideal)) _ _ = _
  after_results
  rfl

/-- And the running sum is zero. -/
theorem quant_zero (j : S16x512x2048.Idx) : quant m c 0 j = (0 : EReal) := by
  have : quant m c 0 = broadcastInDim S16x512x2048 ![] bcast_S_S16x512x2048 (constant S_ .f32 0x00000000#32) := by
    refine (show quant m c 0 = entryContents preI m c (Proc.devRef .tc main_v4_3) from rfl).trans ?_
    show after (hostOps0 (F := Ideal)) _ _ = _
    after_results
    rfl
  rw [this]
  exact Ideal.ofBits_zero_f32

/-- Before the condition and after it a carried value is the same. -/
theorem cond_keep (V : Valuation τ sig (Elt Ideal)) (r : Ref sig .tc) (h : r ∉ condOps_W) : after condOps V (Proc.devRef .tc r) = V (Proc.devRef .tc r) :=
  after_of_writes_sub condOps V condOps_writes h

/-- The counter is the number of the trip. -/
theorem ctr_eq (k : Fin 8) : after condOps (atK m k.val c) (Proc.devRef .tc main_v4_2) = at' k := by
  rw [ctr_cond, atK_ctr]
  funext _
  unfold at' Scf.iv
  simp

/-- A trip subtracts what the straight-through estimator returns. -/
theorem resid_succ (k : Fin 8) : resid m c (k.val + 1) = subf (resid m c k.val) (through (F := Ideal) (resid m c k.val)
    (vecs (F := Ideal) (resid m c k.val) (tables (F := Ideal) (cbs m c) (at' k)))) := by
  refine (trip_res (after condOps (atK m k.val c))).trans ?_
  rw [ctr_eq, cond_keep _ main_v4_4 (by decide), cond_keep _ main_v4_1 (by decide)]
  rw [← books_eq m c k.val]
  rfl

/-- A trip adds it to the running sum. -/
theorem quant_succ (k : Fin 8) : quant m c (k.val + 1) = addf (quant m c k.val) (through (F := Ideal) (resid m c k.val)
    (vecs (F := Ideal) (resid m c k.val) (tables (F := Ideal) (cbs m c) (at' k)))) := by
  refine (trip_quant (after condOps (atK m k.val c))).trans ?_
  rw [ctr_eq, cond_keep _ main_v4_3 (by decide), cond_keep _ main_v4_4 (by decide), cond_keep _ main_v4_1 (by decide)]
  rw [← books_eq m c k.val]
  rfl

/-- A trip writes its layer's codes. -/
theorem codev_succ (k : Fin 8) : codev m c (k.val + 1) = setCodes (F := Ideal) (codev m c k.val)
    (stack (F := Ideal) (codesOf (F := Ideal) (resid m c k.val) (tables (F := Ideal) (cbs m c) (at' k)) 0)
      (codesOf (F := Ideal) (resid m c k.val) (tables (F := Ideal) (cbs m c) (at' k)) 1)) (at' k) := by
  refine (trip_codes (after condOps (atK m k.val c))).trans ?_
  rw [ctr_eq, cond_keep _ main_v4_6 (by decide), cond_keep _ main_v4_4 (by decide), cond_keep _ main_v4_1 (by decide)]
  rw [← books_eq m c k.val]
  rfl

/-- A trip writes its layer's loss. -/
theorem lossv_succ (k : Fin 8) : lossv m c (k.val + 1) = setLoss (F := Ideal) (lossv m c k.val)
    (lossOf (F := Ideal) (number (F := Ideal) (iotaInDim S8 32 0) (at' k)) (resid m c k.val) (tables (F := Ideal) (cbs m c) (at' k))) (at' k) := by
  refine (trip_loss (after condOps (atK m k.val c))).trans ?_
  rw [ctr_eq, cond_keep _ main_v4_5 (by decide), cond_keep _ main_v4_4 (by decide), cond_keep _ main_v4_1 (by decide), cond_keep _ main_v4_0 (by decide)]
  rw [← books_eq m c k.val, ← numbers_eq m c k.val]
  rfl

variable {m c} (hx : ∀ j, Spec.Fin' (xin m c j)) (hc : ∀ j, Spec.Fin' (cbs m c j))
include hx hc

/-- Every residual is real. -/
theorem spec_fin (i : ℕ) (n : Fin 32768) (d : Fin 512) : Spec.Fin' (Spec.res (tk (xin m c) n) (tbs (cbs m c)) i d) :=
  Spec.res_fin (fun _ => hx _) (fun _ _ _ _ => hc _) i d

/-- Every chosen row is real. -/
theorem vec_fin (r : Fin 512 → EReal) (i : ℕ) (d : Fin 512) : Spec.Fin' (Spec.vec r (tbs (cbs m c) i) d) :=
  Spec.vec_fin (fun _ _ _ => hc _) d

/-- The residual before trip `k`. -/
theorem resid_apply (n : Fin 32768) : ∀ k : ℕ, k ≤ 8 → tk (resid m c k) n = Spec.res (tk (xin m c) n) (tbs (cbs m c)) k
  | 0, _ => by rw [resid_zero]; rfl
  | k + 1, h => by
    have hk : k < 8 := h
    have ih := resid_apply n k hk.le
    funext d
    rw [resid_succ m c ⟨k, hk⟩, resid_step, vecs_apply, ih, (spec_fin hx hc k n d).sub_add (vec_fin hx hc _ k d), spec_res]

/-- The code vectors added up before trip `k`. -/
theorem quant_apply (n : Fin 32768) : ∀ k : ℕ, k ≤ 8 → tk (quant m c k) n = Spec.acc (tk (xin m c) n) (tbs (cbs m c)) k
  | 0, _ => funext fun d => quant_zero m c _
  | k + 1, h => by
    have hk : k < 8 := h
    have ih := quant_apply n k hk.le
    funext d
    rw [quant_succ m c ⟨k, hk⟩, quant_step, vecs_apply, ih, resid_apply hx hc n k hk.le, (spec_fin hx hc k n d).sub_add (vec_fin hx hc _ k d), spec_acc]

/-- The codes set before trip `k`. -/
theorem codev_apply (i : Fin 8) (g : Fin 2) (n : Fin 32768) : ∀ k : ℕ, k ≤ 8 → i.val < k → codev m c k (ix3 i g n)
    = BitVec.ofNat 32 (Spec.pos (Spec.res (tk (xin m c) n) (tbs (cbs m c)) i.val) (tbs (cbs m c) i.val) g).val
  | 0, _, hi => absurd hi (Nat.not_lt_zero _)
  | k + 1, h, hi => by
    have hk : k < 8 := h
    rw [codev_succ m c ⟨k, hk⟩, setCodes_apply, stack_codes, resid_apply hx hc n k hk.le]
    by_cases e : i = ⟨k, hk⟩
    · rw [if_pos e, e]
    · rw [if_neg e]
      exact codev_apply i g n k hk.le (by have : i.val ≠ k := fun e' => e (Fin.ext e'); omega)

/-- A trip's mean of squares. -/
theorem msd_trip (k : Fin 8) : msd (F := Ideal) (resid m c k.val) (vecs (F := Ideal) (resid m c k.val) (tables (F := Ideal) (cbs m c) (at' k))) ix0
    = Ideal.div (∑ n, Spec.sqr (tk (xin m c) n) (tbs (cbs m c)) k.val) (Ideal.ofBits FTy.f32 1266679808#32) := by
  have ht : ∀ n d, (tk (vecs (F := Ideal) (resid m c k.val) (tables (F := Ideal) (cbs m c) (at' k))) n d - tk (resid m c k.val) n d)
        * (tk (vecs (F := Ideal) (resid m c k.val) (tables (F := Ideal) (cbs m c) (at' k))) n d - tk (resid m c k.val) n d)
      = Spec.res (tk (xin m c) n) (tbs (cbs m c)) (k.val + 1) d * Spec.res (tk (xin m c) n) (tbs (cbs m c)) (k.val + 1) d := fun n d => by
    rw [vecs_apply, resid_apply hx hc n k.val (by omega), (spec_fin hx hc k.val n d).sq_comm (vec_fin hx hc _ k.val d), spec_res]
  rw [msd_apply, Finset.sum_congr rfl fun n _ => Finset.sum_congr rfl fun d _ => ht n d]
  unfold Spec.sqr
  rfl

/-- The losses set before trip `k`. -/
theorem lossv_apply (i : Fin 8) : ∀ k : ℕ, k ≤ 8 → i.val < k → lossv m c k (ix1 i)
    = Ideal.ofBits FTy.f32 1036831949#32
        * (if i.val < 1 then (Spec.entropy (tbs (cbs m c) 0 0) + Spec.entropy (tbs (cbs m c) 0 1)) * Ideal.ofBits FTy.f32 1056964608#32 else 0)
      + Ideal.div (∑ n, Spec.sqr (tk (xin m c) n) (tbs (cbs m c)) i.val) (Ideal.ofBits FTy.f32 1266679808#32)
      + Ideal.ofBits FTy.f32 1048576000#32 * Ideal.div (∑ n, Spec.sqr (tk (xin m c) n) (tbs (cbs m c)) i.val) (Ideal.ofBits FTy.f32 1266679808#32)
  | 0, _, hi => absurd hi (Nat.not_lt_zero _)
  | k + 1, h, hi => by
    have hk : k < 8 := h
    rw [lossv_succ m c ⟨k, hk⟩, setLoss_apply]
    by_cases e : i = ⟨k, hk⟩
    · rw [if_pos e, lossOf_apply, msd_trip hx hc, e]
    · rw [if_neg e]
      exact lossv_apply i k hk.le (by have : i.val ≠ k := fun e' => e (Fin.ext e'); omega)

/-! The results. -/

omit hx hc in
/-- What the run leaves is what its last stretch makes of the last trip. -/
theorem final_eq (N : ℕ) (r : Ref sig .tc) :
    finalContents condOps preI bodyI postI N m c (Proc.devRef .tc r) = after (hostOps0_1 (F := Ideal)) (after condOps (atK m N c)) (Proc.devRef .tc r) := rfl

omit hx hc in
/-- The first result is the running sum. -/
theorem final_quant (N : ℕ) : (finalContents condOps preI bodyI postI N m c (Proc.devRef .tc main_v4_3) : FVec Ideal S16x512x2048 .f32) = quant m c N := by
  rw [final_eq, after_of_writes_sub _ _ hostOps0_1_writes (by decide +kernel), cond_keep _ main_v4_3 (by decide)]
  rfl

omit hx hc in
/-- The third result is the layers' codes, reshaped. -/
theorem final_codes (N : ℕ) : (finalContents condOps preI bodyI postI N m c (Proc.devRef .tc main_v7) : IVec S16x32768 32)
    = shapeCast S16x32768 (codev m c N) shapeCasts_S8x2x32768_S16x32768 := by
  rw [final_eq]
  unfold codev
  generalize atK m N c = V
  after_results
  rfl

omit hx hc in
/-- The second result is the mean of the layers' losses. -/
theorem final_loss (N : ℕ) : (finalContents condOps preI bodyI postI N m c (Proc.devRef .tc main_v6) : FVec Ideal S_ .f32)
    = Host.divf (Host.reduceAdd (lossv m c N) (constant S_ .f32 0x00000000#32) reducesTo_S8_S_d0 h_S_) (constant S_ .f32 0x41000000#32) := by
  rw [final_eq]
  unfold lossv
  generalize atK m N c = V
  after_results

omit hx hc in
/-- A row of the reshaped codes is a layer and a group. -/
theorem flat_codes (z : IVec S8x2x32768 32) (q : Fin 16) (n : Fin 32768) :
    shapeCast S16x32768 z shapeCasts_S8x2x32768_S16x32768 (ix2 q n) = z (ix3 ⟨q.val / 2, by omega⟩ (Fin.ofNat 2 q.val) n) := by
  pointwise
  rfl

omit hx hc in
/-- The mean, as a sum. -/
theorem mean_losses (z : FVec Ideal S8 .f32) :
    Host.divf (Host.reduceAdd z (constant S_ .f32 0x00000000#32) reducesTo_S8_S_d0 h_S_) (constant S_ .f32 0x41000000#32) ix0
      = Ideal.div (∑ i, z (ix1 i)) (Ideal.ofBits FTy.f32 1090519040#32) := by
  pointwise

/-- The quantized array, entry by entry. -/
theorem quant_out (b : Fin 16) (d : Fin 512) (t : Fin 2048) :
    (finalContents condOps preI bodyI postI 8 m c (Proc.devRef .tc main_v4_3) : FVec Ideal S16x512x2048 .f32) (ix3 b d t)
      = Spec.acc (tk (xin m c) ⟨b.val * 2048 + t.val, by omega⟩) (tbs (cbs m c)) 8 d := by
  rw [final_quant, tk_apply (quant m c 8), quant_apply hx hc _ 8 le_rfl]

/-- The codes, entry by entry. -/
theorem marks_out (q : Fin 16) (n : Fin 32768) :
    (finalContents condOps preI bodyI postI 8 m c (Proc.devRef .tc main_v7) : IVec S16x32768 32) (ix2 q n)
      = BitVec.ofNat 32 (Spec.pos (Spec.res (tk (xin m c) n) (tbs (cbs m c)) (q.val / 2)) (tbs (cbs m c) (q.val / 2)) (Fin.ofNat 2 q.val)).val := by
  rw [final_codes, flat_codes, codev_apply hx hc _ _ n 8 le_rfl (Fin.isLt _)]

/-- The loss. -/
theorem loss_out :
    (finalContents condOps preI bodyI postI 8 m c (Proc.devRef .tc main_v6) : FVec Ideal S_ .f32) ix0
      = Ideal.div (∑ i : Fin 8, (Ideal.ofBits FTy.f32 1036831949#32
            * (if i.val < 1 then (Spec.entropy (tbs (cbs m c) 0 0) + Spec.entropy (tbs (cbs m c) 0 1)) * Ideal.ofBits FTy.f32 1056964608#32 else 0)
          + Ideal.div (∑ n, Spec.sqr (tk (xin m c) n) (tbs (cbs m c)) i.val) (Ideal.ofBits FTy.f32 1266679808#32)
          + Ideal.ofBits FTy.f32 1048576000#32 * Ideal.div (∑ n, Spec.sqr (tk (xin m c) n) (tbs (cbs m c)) i.val) (Ideal.ofBits FTy.f32 1266679808#32)))
        (Ideal.ofBits FTy.f32 1090519040#32) := by
  rw [final_loss, mean_losses, Finset.sum_congr rfl fun i _ => lossv_apply hx hc i 8 le_rfl i.isLt]

end Cert.ReferenceIdeal.Layer

end
-- ==== Proof.Algebraic.lean ====
/- On real inputs the two programs end with the same three results. -/
module

public import proofs.«01_k».proof.Defs
public import proofs.«01_k».proof.Proof.Finite
public import proofs.«01_k».proof.Proof.KRun
public import proofs.«01_k».proof.Proof.KFinal
public import proofs.«01_k».proof.Proof.RefFrame
public import proofs.«01_k».proof.Proof.RFinal

@[expose] public section

set_option maxRecDepth 16384

noncomputable section

namespace Cert.Agree

open Idealize.ShloMosaic Idealize.SL.Sem
open Idealize.ShloMosaic.StableHlo Cert.ReferenceIdeal.Gen Cert.ReferenceIdeal.Fold

/-- The two readings of a token. -/
theorem tk_eq (x : FVec Ideal Cert.ReferenceIdeal.S16x512x2048 .f32) : Cert.ReferenceIdeal.Layer.tk x = Cert.KernelIdeal.KV.token x := rfl

/-- The two readings of the tables. -/
theorem tbs_eq (cb : FVec Ideal Cert.ReferenceIdeal.S8x2x1024x256 .f32) : Cert.ReferenceIdeal.Layer.tbs cb = Cert.KernelIdeal.KV.tabs cb := rfl

variable (m : (ℓ : Loc Cert.KernelIdeal.nD Cert.KernelIdeal.τ Cert.KernelIdeal.sig) → Buf (Elt Ideal) ℓ) (g : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)
  (hx : ∀ j, Spec.Fin' (Cert.KernelIdeal.KV.xin m c j)) (hc : ∀ j, Spec.Fin' (Cert.KernelIdeal.KV.cbs m c j))
  (ex : Cert.ReferenceIdeal.Layer.xin m' c = Cert.KernelIdeal.KV.xin m c) (ec : Cert.ReferenceIdeal.Layer.cbs m' c = Cert.KernelIdeal.KV.cbs m c)
include hx hc ex ec

/-- The quantized arrays agree. -/
theorem quant : (finalContents condOps preI bodyI postI 8 m' c (Proc.devRef .tc Cert.ReferenceIdeal.main_v4_3) : FVec Ideal Cert.ReferenceIdeal.S16x512x2048 .f32)
    = Cert.KernelIdeal.Gen.W5 m g c (Proc.devRef .tc Cert.KernelIdeal.main_v10) := by
  funext j
  have hl := Cert.ReferenceIdeal.Layer.quant_out (m := m') (c := c) (fun i => by rw [ex]; exact hx i) (fun i => by rw [ec]; exact hc i) (j 0) (j 1) (j 2)
  have hr := Cert.KernelIdeal.KV.quant_out m g c hc (j 0) (j 1) (j 2)
  rw [ex, ec, tk_eq, tbs_eq] at hl
  rw [eq_ix3 j]
  exact hl.trans hr.symm

/-- The codes agree. -/
theorem marks : (finalContents condOps preI bodyI postI 8 m' c (Proc.devRef .tc Cert.ReferenceIdeal.main_v7) : IVec Cert.ReferenceIdeal.S16x32768 32)
    = Cert.KernelIdeal.Gen.W5 m g c (Proc.devRef .tc Cert.KernelIdeal.main_v12) := by
  funext j
  have hl := Cert.ReferenceIdeal.Layer.marks_out (m := m') (c := c) (fun i => by rw [ex]; exact hx i) (fun i => by rw [ec]; exact hc i) (j 0) (j 1)
  have hr := Cert.KernelIdeal.KV.marks_out m g c hc (j 0) (j 1)
  rw [ex, ec, tk_eq, tbs_eq] at hl
  rw [eq_ix2 j]
  exact hl.trans hr.symm

/-- The losses agree. -/
theorem loss : (finalContents condOps preI bodyI postI 8 m' c (Proc.devRef .tc Cert.ReferenceIdeal.main_v6) : FVec Ideal Cert.ReferenceIdeal.S_ .f32)
    = Cert.KernelIdeal.Gen.W5 m g c (Proc.devRef .tc Cert.KernelIdeal.main_v37) := by
  funext j
  have hl := Cert.ReferenceIdeal.Layer.loss_out (m := m') (c := c) (fun i => by rw [ex]; exact hx i) (fun i => by rw [ec]; exact hc i)
  have hr := Cert.KernelIdeal.KV.loss_out m g c hc
  simp only [ex, ec, tk_eq, tbs_eq] at hl
  rw [show j = ix0 from funext fun a => a.elim0]
  exact hl.trans hr.symm

omit hx hc ex ec in
/-- Both programs run, keep their arguments, and on real inputs end with the same quantized array, loss and codes. -/
theorem algebraic : @Cert.algebraic_KernelIdeal_ReferenceIdeal_pre_finite Cert.KernelIdeal.Gen.facts Cert.ReferenceIdeal.Gen.facts Cert.Pre_finite.facts := by
  intro m g m' g' hp he
  have hfin (c : Dev Cert.KernelIdeal.nD) := @Cert.Pre_finite.finite_of Cert.Pre_finite.facts (Cert.KernelIdeal.KV.xin m c) (Cert.KernelIdeal.KV.cbs m c) (hp c)
  have ex (c : Dev Cert.KernelIdeal.nD) : Cert.ReferenceIdeal.Layer.xin m' c = Cert.KernelIdeal.KV.xin m c := (he c).1
  have ec (c : Dev Cert.KernelIdeal.nD) : Cert.ReferenceIdeal.Layer.cbs m' c = Cert.KernelIdeal.KV.cbs m c := (he c).2
  refine ⟨fun c => Cert.KernelIdeal.Gen.W5 m g c (Proc.devRef .tc Cert.KernelIdeal.main_v10),
    fun c => Cert.KernelIdeal.Gen.W5 m g c (Proc.devRef .tc Cert.KernelIdeal.main_v37),
    fun c => Cert.KernelIdeal.Gen.W5 m g c (Proc.devRef .tc Cert.KernelIdeal.main_v12), ?_, ?_⟩
  · refine (θ_run Cert.KernelIdeal.defs _ _).mono (fun r h c => ?_) (Cert.KernelIdeal.KRun.run_all m g)
    exact ⟨h c Cert.KernelIdeal.main_v10 (by decide), h c Cert.KernelIdeal.main_v37 (by decide), h c Cert.KernelIdeal.main_v12 (by decide),
      (h c Cert.KernelIdeal.main_arg0 (by decide)).trans (Cert.KernelIdeal.Gen.W5_main_arg0 m g c),
      (h c Cert.KernelIdeal.main_arg1 (by decide)).trans (Cert.KernelIdeal.Gen.W5_main_arg1 m g c)⟩
  · refine (θ_run Cert.ReferenceIdeal.defs _ _).mono (fun r h c => ?_) (run_fold m' g')
    exact ⟨(h c Cert.ReferenceIdeal.main_v4_3 rfl).trans (quant m g m' c (hfin c).1 (hfin c).2 (ex c) (ec c)),
      (h c Cert.ReferenceIdeal.main_v6 rfl).trans (loss m g m' c (hfin c).1 (hfin c).2 (ex c) (ec c)),
      (h c Cert.ReferenceIdeal.main_v7 rfl).trans (marks m g m' c (hfin c).1 (hfin c).2 (ex c) (ec c)),
      (h c Cert.ReferenceIdeal.main_arg0 rfl).trans (final_arg m' c _ (by decide +kernel) (by decide +kernel) (by decide +kernel) (by decide +kernel)),
      (h c Cert.ReferenceIdeal.main_arg1 rfl).trans (final_arg m' c _ (by decide +kernel) (by decide +kernel) (by decide +kernel) (by decide +kernel))⟩

end Cert.Agree

end
-- ==== Proof.lean ====
/- The claims of `Cert.Claim`, assembled from the launch files and the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefFrame
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every program runs to the end with its arguments unchanged, the idealization is the kernel's own text, and on real inputs the
    idealized kernel and reference return the same arrays. -/
theorem claim : Cert.Claim :=
  ⟨Cert.Kernel.Gen.facts, Cert.KernelIdeal.Gen.facts, Cert.ReferenceIdeal.Gen.facts, Cert.Pre_finite.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Fold.frame m ρ, fun m ρ _ => Cert.ReferenceIdeal.Fold.frame m ρ, trivial, Cert.Agree.algebraic⟩

end Cert.Proof

end
